-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x65536x16 : Shape := ⟨3, ![8, 65536, 16]⟩
abbrev S400x20 : Shape := ⟨2, ![400, 20]⟩
abbrev S20x400 : Shape := ⟨2, ![20, 400]⟩
abbrev S120x16 : Shape := ⟨2, ![120, 16]⟩
abbrev S524288x16 : Shape := ⟨2, ![524288, 16]⟩
abbrev S16x524288 : Shape := ⟨2, ![16, 524288]⟩
abbrev S2x16 : Shape := ⟨2, ![2, 16]⟩
abbrev S4096x16 : Shape := ⟨2, ![4096, 16]⟩
abbrev S16x4096 : Shape := ⟨2, ![16, 4096]⟩
abbrev S1x16 : Shape := ⟨2, ![1, 16]⟩
abbrev S16 : Shape := ⟨1, ![16]⟩
abbrev S_ : Shape := ⟨0, ![]⟩
abbrev S48000 : Shape := ⟨1, ![48000]⟩
abbrev S32x48000 : Shape := ⟨2, ![32, 48000]⟩
abbrev S1 : Shape := ⟨1, ![1]⟩
abbrev S1x48000 : Shape := ⟨2, ![1, 48000]⟩
abbrev S32x120x400 : Shape := ⟨3, ![32, 120, 400]⟩
abbrev S16x16 : Shape := ⟨2, ![16, 16]⟩
abbrev S120x400 : Shape := ⟨2, ![120, 400]⟩
abbrev S120x20 : Shape := ⟨2, ![120, 20]⟩
abbrev S120 : Shape := ⟨1, ![120]⟩
abbrev S120x1 : Shape := ⟨2, ![120, 1]⟩
abbrev S1x16x16 : Shape := ⟨3, ![1, 16, 16]⟩
abbrev S8x16x16 : Shape := ⟨3, ![8, 16, 16]⟩

abbrev nBuf : Table → Nat
  | .hbm => 17
  | .local .tc .vmem => 15
  | .local .scVector .vmem => 3
  | _ => 0

abbrev bufTy : (tb : Table) → Fin (nBuf tb) → BufTy
  | .hbm, ⟨0, _⟩ => ⟨S8x65536x16, .f32⟩
  | .hbm, ⟨1, _⟩ => ⟨S400x20, .f32⟩
  | .hbm, ⟨2, _⟩ => ⟨S20x400, .f32⟩
  | .hbm, ⟨3, _⟩ => ⟨S400x20, .f32⟩
  | .hbm, ⟨4, _⟩ => ⟨S20x400, .f32⟩
  | .hbm, ⟨5, _⟩ => ⟨S120x16, .f32⟩
  | .hbm, ⟨6, _⟩ => ⟨S120x16, .f32⟩
  | .hbm, ⟨7, _⟩ => ⟨S524288x16, .f32⟩
  | .hbm, ⟨8, _⟩ => ⟨S16x524288, .f32⟩
  | .hbm, ⟨9, _⟩ => ⟨S2x16, .f32⟩
  | .hbm, ⟨10, _⟩ => ⟨S_, .f32⟩
  | .hbm, ⟨11, _⟩ => ⟨S48000, .f32⟩
  | .hbm, ⟨12, _⟩ => ⟨S32x48000, .f32⟩
  | .hbm, ⟨13, _⟩ => ⟨S32x120x400, .f32⟩
  | .hbm, ⟨14, _⟩ => ⟨S16x16, .f32⟩
  | .hbm, ⟨15, _⟩ => ⟨S1x16x16, .f32⟩
  | .hbm, ⟨16, _⟩ => ⟨S8x16x16, .f32⟩
  | .local .tc .vmem, ⟨0, _⟩ => ⟨S4096x16, .f32⟩
  | .local .tc .vmem, ⟨1, _⟩ => ⟨S4096x16, .f32⟩
  | .local .tc .vmem, ⟨2, _⟩ => ⟨S16x4096, .f32⟩
  | .local .tc .vmem, ⟨3, _⟩ => ⟨S16x4096, .f32⟩
  | .local .tc .vmem, ⟨4, _⟩ => ⟨S2x16, .f32⟩
  | .local .tc .vmem, ⟨5, _⟩ => ⟨S1x16, .f32⟩
  | .local .tc .vmem, ⟨6, _⟩ => ⟨S1x16, .f32⟩
  | .local .tc .vmem, ⟨7, _⟩ => ⟨S32x120x400, .f32⟩
  | .local .tc .vmem, ⟨8, _⟩ => ⟨S400x20, .f32⟩
  | .local .tc .vmem, ⟨9, _⟩ => ⟨S20x400, .f32⟩
  | .local .tc .vmem, ⟨10, _⟩ => ⟨S400x20, .f32⟩
  | .local .tc .vmem, ⟨11, _⟩ => ⟨S20x400, .f32⟩
  | .local .tc .vmem, ⟨12, _⟩ => ⟨S120x16, .f32⟩
  | .local .tc .vmem, ⟨13, _⟩ => ⟨S120x16, .f32⟩
  | .local .tc .vmem, ⟨14, _⟩ => ⟨S16x16, .f32⟩
  | .local .scVector .vmem, ⟨0, _⟩ => ⟨S16x4096, .f32⟩
  | .local .scVector .vmem, ⟨1, _⟩ => ⟨S2x16, .f32⟩
  | .local .scVector .vmem, ⟨2, _⟩ => ⟨S48000, .f32⟩
  | _, _ => ⟨S8x65536x16, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_cst_2 : Ref sig .tc := ⟨.hbm, 4, rfl⟩
abbrev main_cst_3 : Ref sig .tc := ⟨.hbm, 5, rfl⟩
abbrev main_cst_4 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_cst_5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v1_0_scv : Ref sig .scVector := ⟨.hbm, 8, rfl⟩
abbrev main_v1_1_scv : Ref sig .scVector := ⟨.hbm, 9, rfl⟩
abbrev main_v2_scv : Ref sig .scVector := ⟨.hbm, 11, rfl⟩
abbrev main_v3_scv : Ref sig .scVector := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg4_0 : Ref sig .tc := ⟨.vmem, 11, rfl⟩
abbrev cc2_stg5_0 : Ref sig .tc := ⟨.vmem, 12, rfl⟩
abbrev cc2_stg6_0 : Ref sig .tc := ⟨.vmem, 13, rfl⟩
abbrev cc2_stg7_0 : Ref sig .tc := ⟨.vmem, 14, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc2_sem0_0 : DmaSem sig := 9
abbrev cc2_sem1_0 : DmaSem sig := 10
abbrev cc2_sem2_0 : DmaSem sig := 11
abbrev cc2_sem3_0 : DmaSem sig := 12
abbrev cc2_sem4_0 : DmaSem sig := 13
abbrev cc2_sem5_0 : DmaSem sig := 14
abbrev cc2_sem6_0 : DmaSem sig := 15
abbrev cc2_sem7_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v21 : BitVec 1 := Scalar.cmpi .eq arg0 c127_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 16], ![false, false]⟩

@[reducible] def k1_t1_loop : Scf.Loop 32 :=
  let c0_i32_3 : BitVec 32 := 0#32
  let c4_i32 : BitVec 32 := 4#32
  let v75 : BitVec 32 := Scalar.addi c0_i32_3 c4_i32
  let c1_i32_4 : BitVec 32 := 1#32
  ⟨c0_i32_3, v75, c1_i32_4⟩
def k1_off1 (i : grid1.Coords) (k1_t1 : Fin k1_t1_loop.trips) : Fin 2 → Nat :=
  let c0_i32_10_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c0_i32_3 : BitVec 32 := 0#32
  let c1_i32_4 : BitVec 32 := 1#32
  let arg9 : BitVec 32 := Scf.iv c0_i32_3 c1_i32_4 k1_t1
  let c4096_i32 : BitVec 32 := 4096#32
  let v76 : BitVec 32 := Scalar.muli arg9 c4096_i32
  let v77 : BitVec 32 := Scalar.addi v2 v76
  ![0, v77.toNat]
@[reducible] def k1_t2_loop : Scf.Loop 32 :=
  let c0_i32_7 : BitVec 32 := 0#32
  let c256_i32 : BitVec 32 := 256#32
  let v78 : BitVec 32 := Scalar.addi c0_i32_7 c256_i32
  let c1_i32_8 : BitVec 32 := 1#32
  ⟨c0_i32_7, v78, c1_i32_8⟩
def k1_off2 (k1_t2 : Fin k1_t2_loop.trips) : Fin 2 → Nat :=
  let c0_i32_10 : BitVec 32 := 0#32
  let v80 : Index := Scalar.indexCast c0_i32_10
  let c0_i32_7 : BitVec 32 := 0#32
  let c1_i32_8 : BitVec 32 := 1#32
  let arg10 : BitVec 32 := Scf.iv c0_i32_7 c1_i32_8 k1_t2
  let c16_i32 : BitVec 32 := 16#32
  let v79 : BitVec 32 := Scalar.muli arg10 c16_i32
  let v81 : Index := Scalar.indexCast v79
  ![0, v81.toNat]
def k1_off3 (k1_t2 : Fin k1_t2_loop.trips) : Fin 2 → Nat :=
  let c1_i32_13 : BitVec 32 := 1#32
  let v93 : Index := Scalar.indexCast c1_i32_13
  let c0_i32_7 : BitVec 32 := 0#32
  let c1_i32_8 : BitVec 32 := 1#32
  let arg10 : BitVec 32 := Scf.iv c0_i32_7 c1_i32_8 k1_t2
  let c16_i32_12 : BitVec 32 := 16#32
  let v92 : BitVec 32 := Scalar.muli arg10 c16_i32_12
  let v94 : Index := Scalar.indexCast v92
  ![1, v94.toNat]
def k1_off4 (k1_t2 : Fin k1_t2_loop.trips) : Fin 2 → Nat :=
  let c2_i32_17 : BitVec 32 := 2#32
  let v106 : Index := Scalar.indexCast c2_i32_17
  let c0_i32_7 : BitVec 32 := 0#32
  let c1_i32_8 : BitVec 32 := 1#32
  let arg10 : BitVec 32 := Scf.iv c0_i32_7 c1_i32_8 k1_t2
  let c16_i32_16 : BitVec 32 := 16#32
  let v105 : BitVec 32 := Scalar.muli arg10 c16_i32_16
  let v107 : Index := Scalar.indexCast v105
  ![2, v107.toNat]
def k1_off5 (k1_t2 : Fin k1_t2_loop.trips) : Fin 2 → Nat :=
  let c3_i32 : BitVec 32 := 3#32
  let v119 : Index := Scalar.indexCast c3_i32
  let c0_i32_7 : BitVec 32 := 0#32
  let c1_i32_8 : BitVec 32 := 1#32
  let arg10 : BitVec 32 := Scf.iv c0_i32_7 c1_i32_8 k1_t2
  let c16_i32_20 : BitVec 32 := 16#32
  let v118 : BitVec 32 := Scalar.muli arg10 c16_i32_20
  let v120 : Index := Scalar.indexCast v118
  ![3, v120.toNat]
def k1_off6 (k1_t2 : Fin k1_t2_loop.trips) : Fin 2 → Nat :=
  let c4_i32_24 : BitVec 32 := 4#32
  let v132 : Index := Scalar.indexCast c4_i32_24
  let c0_i32_7 : BitVec 32 := 0#32
  let c1_i32_8 : BitVec 32 := 1#32
  let arg10 : BitVec 32 := Scf.iv c0_i32_7 c1_i32_8 k1_t2
  let c16_i32_23 : BitVec 32 := 16#32
  let v131 : BitVec 32 := Scalar.muli arg10 c16_i32_23
  let v133 : Index := Scalar.indexCast v131
  ![4, v133.toNat]
def k1_off7 (k1_t2 : Fin k1_t2_loop.trips) : Fin 2 → Nat :=
  let c5_i32 : BitVec 32 := 5#32
  let v145 : Index := Scalar.indexCast c5_i32
  let c0_i32_7 : BitVec 32 := 0#32
  let c1_i32_8 : BitVec 32 := 1#32
  let arg10 : BitVec 32 := Scf.iv c0_i32_7 c1_i32_8 k1_t2
  let c16_i32_27 : BitVec 32 := 16#32
  let v144 : BitVec 32 := Scalar.muli arg10 c16_i32_27
  let v146 : Index := Scalar.indexCast v144
  ![5, v146.toNat]
def k1_off8 (k1_t2 : Fin k1_t2_loop.trips) : Fin 2 → Nat :=
  let c6_i32 : BitVec 32 := 6#32
  let v158 : Index := Scalar.indexCast c6_i32
  let c0_i32_7 : BitVec 32 := 0#32
  let c1_i32_8 : BitVec 32 := 1#32
  let arg10 : BitVec 32 := Scf.iv c0_i32_7 c1_i32_8 k1_t2
  let c16_i32_30 : BitVec 32 := 16#32
  let v157 : BitVec 32 := Scalar.muli arg10 c16_i32_30
  let v159 : Index := Scalar.indexCast v157
  ![6, v159.toNat]
def k1_off9 (k1_t2 : Fin k1_t2_loop.trips) : Fin 2 → Nat :=
  let c7_i32 : BitVec 32 := 7#32
  let v171 : Index := Scalar.indexCast c7_i32
  let c0_i32_7 : BitVec 32 := 0#32
  let c1_i32_8 : BitVec 32 := 1#32
  let arg10 : BitVec 32 := Scf.iv c0_i32_7 c1_i32_8 k1_t2
  let c16_i32_33 : BitVec 32 := 16#32
  let v170 : BitVec 32 := Scalar.muli arg10 c16_i32_33
  let v172 : Index := Scalar.indexCast v170
  ![7, v172.toNat]
def k1_off10 (k1_t2 : Fin k1_t2_loop.trips) : Fin 2 → Nat :=
  let c8_i32 : BitVec 32 := 8#32
  let v184 : Index := Scalar.indexCast c8_i32
  let c0_i32_7 : BitVec 32 := 0#32
  let c1_i32_8 : BitVec 32 := 1#32
  let arg10 : BitVec 32 := Scf.iv c0_i32_7 c1_i32_8 k1_t2
  let c16_i32_36 : BitVec 32 := 16#32
  let v183 : BitVec 32 := Scalar.muli arg10 c16_i32_36
  let v185 : Index := Scalar.indexCast v183
  ![8, v185.toNat]
def k1_off11 (k1_t2 : Fin k1_t2_loop.trips) : Fin 2 → Nat :=
  let c9_i32 : BitVec 32 := 9#32
  let v197 : Index := Scalar.indexCast c9_i32
  let c0_i32_7 : BitVec 32 := 0#32
  let c1_i32_8 : BitVec 32 := 1#32
  let arg10 : BitVec 32 := Scf.iv c0_i32_7 c1_i32_8 k1_t2
  let c16_i32_39 : BitVec 32 := 16#32
  let v196 : BitVec 32 := Scalar.muli arg10 c16_i32_39
  let v198 : Index := Scalar.indexCast v196
  ![9, v198.toNat]
def k1_off12 (k1_t2 : Fin k1_t2_loop.trips) : Fin 2 → Nat :=
  let c10_i32 : BitVec 32 := 10#32
  let v210 : Index := Scalar.indexCast c10_i32
  let c0_i32_7 : BitVec 32 := 0#32
  let c1_i32_8 : BitVec 32 := 1#32
  let arg10 : BitVec 32 := Scf.iv c0_i32_7 c1_i32_8 k1_t2
  let c16_i32_42 : BitVec 32 := 16#32
  let v209 : BitVec 32 := Scalar.muli arg10 c16_i32_42
  let v211 : Index := Scalar.indexCast v209
  ![10, v211.toNat]
def k1_off13 (k1_t2 : Fin k1_t2_loop.trips) : Fin 2 → Nat :=
  let c11_i32 : BitVec 32 := 11#32
  let v223 : Index := Scalar.indexCast c11_i32
  let c0_i32_7 : BitVec 32 := 0#32
  let c1_i32_8 : BitVec 32 := 1#32
  let arg10 : BitVec 32 := Scf.iv c0_i32_7 c1_i32_8 k1_t2
  let c16_i32_45 : BitVec 32 := 16#32
  let v222 : BitVec 32 := Scalar.muli arg10 c16_i32_45
  let v224 : Index := Scalar.indexCast v222
  ![11, v224.toNat]
def k1_off14 (k1_t2 : Fin k1_t2_loop.trips) : Fin 2 → Nat :=
  let c12_i32 : BitVec 32 := 12#32
  let v236 : Index := Scalar.indexCast c12_i32
  let c0_i32_7 : BitVec 32 := 0#32
  let c1_i32_8 : BitVec 32 := 1#32
  let arg10 : BitVec 32 := Scf.iv c0_i32_7 c1_i32_8 k1_t2
  let c16_i32_48 : BitVec 32 := 16#32
  let v235 : BitVec 32 := Scalar.muli arg10 c16_i32_48
  let v237 : Index := Scalar.indexCast v235
  ![12, v237.toNat]
def k1_off15 (k1_t2 : Fin k1_t2_loop.trips) : Fin 2 → Nat :=
  let c13_i32 : BitVec 32 := 13#32
  let v249 : Index := Scalar.indexCast c13_i32
  let c0_i32_7 : BitVec 32 := 0#32
  let c1_i32_8 : BitVec 32 := 1#32
  let arg10 : BitVec 32 := Scf.iv c0_i32_7 c1_i32_8 k1_t2
  let c16_i32_51 : BitVec 32 := 16#32
  let v248 : BitVec 32 := Scalar.muli arg10 c16_i32_51
  let v250 : Index := Scalar.indexCast v248
  ![13, v250.toNat]
def k1_off16 (k1_t2 : Fin k1_t2_loop.trips) : Fin 2 → Nat :=
  let c14_i32 : BitVec 32 := 14#32
  let v262 : Index := Scalar.indexCast c14_i32
  let c0_i32_7 : BitVec 32 := 0#32
  let c1_i32_8 : BitVec 32 := 1#32
  let arg10 : BitVec 32 := Scf.iv c0_i32_7 c1_i32_8 k1_t2
  let c16_i32_54 : BitVec 32 := 16#32
  let v261 : BitVec 32 := Scalar.muli arg10 c16_i32_54
  let v263 : Index := Scalar.indexCast v261
  ![14, v263.toNat]
def k1_off17 (k1_t2 : Fin k1_t2_loop.trips) : Fin 2 → Nat :=
  let c15_i32 : BitVec 32 := 15#32
  let v275 : Index := Scalar.indexCast c15_i32
  let c0_i32_7 : BitVec 32 := 0#32
  let c1_i32_8 : BitVec 32 := 1#32
  let arg10 : BitVec 32 := Scf.iv c0_i32_7 c1_i32_8 k1_t2
  let c16_i32_57 : BitVec 32 := 16#32
  let v274 : BitVec 32 := Scalar.muli arg10 c16_i32_57
  let v276 : Index := Scalar.indexCast v274
  ![15, v276.toNat]

def k1_chk1 (v383 : IVec S16 32) : Prop :=
  (∀ a x, ((![v383] : Fin 1 → IVec S16 32) a x).toNat < S48000.size a)
theorem k1_idx1_inb : ∀ (v383 : IVec S16 32) (k1_hw1 : k1_chk1 v383), ∀ a x, ((![v383] : Fin 1 → IVec S16 32) a x).toNat < S48000.size a := fun v383 k1_hw1 => k1_hw1

def k1_chk2 (v384 : IVec S16 32) : Prop :=
  (∀ a x, ((![v384] : Fin 1 → IVec S16 32) a x).toNat < S48000.size a)
theorem k1_idx2_inb : ∀ (v384 : IVec S16 32) (k1_hw2 : k1_chk2 v384), ∀ a x, ((![v384] : Fin 1 → IVec S16 32) a x).toNat < S48000.size a := fun v384 k1_hw2 => k1_hw2

def k1_chk3 (v385 : IVec S16 32) : Prop :=
  (∀ a x, ((![v385] : Fin 1 → IVec S16 32) a x).toNat < S48000.size a)
theorem k1_idx3_inb : ∀ (v385 : IVec S16 32) (k1_hw3 : k1_chk3 v385), ∀ a x, ((![v385] : Fin 1 → IVec S16 32) a x).toNat < S48000.size a := fun v385 k1_hw3 => k1_hw3

def k1_chk4 (v386 : IVec S16 32) : Prop :=
  (∀ a x, ((![v386] : Fin 1 → IVec S16 32) a x).toNat < S48000.size a)
theorem k1_idx4_inb : ∀ (v386 : IVec S16 32) (k1_hw4 : k1_chk4 v386), ∀ a x, ((![v386] : Fin 1 → IVec S16 32) a x).toNat < S48000.size a := fun v386 k1_hw4 => k1_hw4

def k1_chk5 (v387 : IVec S16 32) : Prop :=
  (∀ a x, ((![v387] : Fin 1 → IVec S16 32) a x).toNat < S48000.size a)
theorem k1_idx5_inb : ∀ (v387 : IVec S16 32) (k1_hw5 : k1_chk5 v387), ∀ a x, ((![v387] : Fin 1 → IVec S16 32) a x).toNat < S48000.size a := fun v387 k1_hw5 => k1_hw5

def k1_chk6 (v388 : IVec S16 32) : Prop :=
  (∀ a x, ((![v388] : Fin 1 → IVec S16 32) a x).toNat < S48000.size a)
theorem k1_idx6_inb : ∀ (v388 : IVec S16 32) (k1_hw6 : k1_chk6 v388), ∀ a x, ((![v388] : Fin 1 → IVec S16 32) a x).toNat < S48000.size a := fun v388 k1_hw6 => k1_hw6

def k1_chk7 (v389 : IVec S16 32) : Prop :=
  (∀ a x, ((![v389] : Fin 1 → IVec S16 32) a x).toNat < S48000.size a)
theorem k1_idx7_inb : ∀ (v389 : IVec S16 32) (k1_hw7 : k1_chk7 v389), ∀ a x, ((![v389] : Fin 1 → IVec S16 32) a x).toNat < S48000.size a := fun v389 k1_hw7 => k1_hw7

def k1_chk8 (v390 : IVec S16 32) : Prop :=
  (∀ a x, ((![v390] : Fin 1 → IVec S16 32) a x).toNat < S48000.size a)
theorem k1_idx8_inb : ∀ (v390 : IVec S16 32) (k1_hw8 : k1_chk8 v390), ∀ a x, ((![v390] : Fin 1 → IVec S16 32) a x).toNat < S48000.size a := fun v390 k1_hw8 => k1_hw8

def k1_chk9 (v391 : IVec S16 32) : Prop :=
  (∀ a x, ((![v391] : Fin 1 → IVec S16 32) a x).toNat < S48000.size a)
theorem k1_idx9_inb : ∀ (v391 : IVec S16 32) (k1_hw9 : k1_chk9 v391), ∀ a x, ((![v391] : Fin 1 → IVec S16 32) a x).toNat < S48000.size a := fun v391 k1_hw9 => k1_hw9

def k1_chk10 (v392 : IVec S16 32) : Prop :=
  (∀ a x, ((![v392] : Fin 1 → IVec S16 32) a x).toNat < S48000.size a)
theorem k1_idx10_inb : ∀ (v392 : IVec S16 32) (k1_hw10 : k1_chk10 v392), ∀ a x, ((![v392] : Fin 1 → IVec S16 32) a x).toNat < S48000.size a := fun v392 k1_hw10 => k1_hw10

def k1_chk11 (v393 : IVec S16 32) : Prop :=
  (∀ a x, ((![v393] : Fin 1 → IVec S16 32) a x).toNat < S48000.size a)
theorem k1_idx11_inb : ∀ (v393 : IVec S16 32) (k1_hw11 : k1_chk11 v393), ∀ a x, ((![v393] : Fin 1 → IVec S16 32) a x).toNat < S48000.size a := fun v393 k1_hw11 => k1_hw11

def k1_chk12 (v394 : IVec S16 32) : Prop :=
  (∀ a x, ((![v394] : Fin 1 → IVec S16 32) a x).toNat < S48000.size a)
theorem k1_idx12_inb : ∀ (v394 : IVec S16 32) (k1_hw12 : k1_chk12 v394), ∀ a x, ((![v394] : Fin 1 → IVec S16 32) a x).toNat < S48000.size a := fun v394 k1_hw12 => k1_hw12

def k1_chk13 (v395 : IVec S16 32) : Prop :=
  (∀ a x, ((![v395] : Fin 1 → IVec S16 32) a x).toNat < S48000.size a)
theorem k1_idx13_inb : ∀ (v395 : IVec S16 32) (k1_hw13 : k1_chk13 v395), ∀ a x, ((![v395] : Fin 1 → IVec S16 32) a x).toNat < S48000.size a := fun v395 k1_hw13 => k1_hw13

def k1_chk14 (v396 : IVec S16 32) : Prop :=
  (∀ a x, ((![v396] : Fin 1 → IVec S16 32) a x).toNat < S48000.size a)
theorem k1_idx14_inb : ∀ (v396 : IVec S16 32) (k1_hw14 : k1_chk14 v396), ∀ a x, ((![v396] : Fin 1 → IVec S16 32) a x).toNat < S48000.size a := fun v396 k1_hw14 => k1_hw14

def k1_chk15 (v397 : IVec S16 32) : Prop :=
  (∀ a x, ((![v397] : Fin 1 → IVec S16 32) a x).toNat < S48000.size a)
theorem k1_idx15_inb : ∀ (v397 : IVec S16 32) (k1_hw15 : k1_chk15 v397), ∀ a x, ((![v397] : Fin 1 → IVec S16 32) a x).toNat < S48000.size a := fun v397 k1_hw15 => k1_hw15

def k1_chk16 (v398 : IVec S16 32) : Prop :=
  (∀ a x, ((![v398] : Fin 1 → IVec S16 32) a x).toNat < S48000.size a)
theorem k1_idx16_inb : ∀ (v398 : IVec S16 32) (k1_hw16 : k1_chk16 v398), ∀ a x, ((![v398] : Fin 1 → IVec S16 32) a x).toNat < S48000.size a := fun v398 k1_hw16 => k1_hw16

def k1_chk17 (v399 : IVec S16 32) : Prop :=
  (∀ a x, ((![v399] : Fin 1 → IVec S16 32) a x).toNat < S48000.size a)
theorem k1_idx17_inb : ∀ (v399 : IVec S16 32) (k1_hw17 : k1_chk17 v399), ∀ a x, ((![v399] : Fin 1 → IVec S16 32) a x).toNat < S48000.size a := fun v399 k1_hw17 => k1_hw17

def k1_chk18 (v400 : IVec S16 32) : Prop :=
  (∀ a x, ((![v400] : Fin 1 → IVec S16 32) a x).toNat < S48000.size a)
theorem k1_idx18_inb : ∀ (v400 : IVec S16 32) (k1_hw18 : k1_chk18 v400), ∀ a x, ((![v400] : Fin 1 → IVec S16 32) a x).toNat < S48000.size a := fun v400 k1_hw18 => k1_hw18

def k1_chk19 (v401 : IVec S16 32) : Prop :=
  (∀ a x, ((![v401] : Fin 1 → IVec S16 32) a x).toNat < S48000.size a)
theorem k1_idx19_inb : ∀ (v401 : IVec S16 32) (k1_hw19 : k1_chk19 v401), ∀ a x, ((![v401] : Fin 1 → IVec S16 32) a x).toNat < S48000.size a := fun v401 k1_hw19 => k1_hw19

def k1_chk20 (v402 : IVec S16 32) : Prop :=
  (∀ a x, ((![v402] : Fin 1 → IVec S16 32) a x).toNat < S48000.size a)
theorem k1_idx20_inb : ∀ (v402 : IVec S16 32) (k1_hw20 : k1_chk20 v402), ∀ a x, ((![v402] : Fin 1 → IVec S16 32) a x).toNat < S48000.size a := fun v402 k1_hw20 => k1_hw20

def k1_chk21 (v403 : IVec S16 32) : Prop :=
  (∀ a x, ((![v403] : Fin 1 → IVec S16 32) a x).toNat < S48000.size a)
theorem k1_idx21_inb : ∀ (v403 : IVec S16 32) (k1_hw21 : k1_chk21 v403), ∀ a x, ((![v403] : Fin 1 → IVec S16 32) a x).toNat < S48000.size a := fun v403 k1_hw21 => k1_hw21

def k1_chk22 (v404 : IVec S16 32) : Prop :=
  (∀ a x, ((![v404] : Fin 1 → IVec S16 32) a x).toNat < S48000.size a)
theorem k1_idx22_inb : ∀ (v404 : IVec S16 32) (k1_hw22 : k1_chk22 v404), ∀ a x, ((![v404] : Fin 1 → IVec S16 32) a x).toNat < S48000.size a := fun v404 k1_hw22 => k1_hw22

def k1_chk23 (v405 : IVec S16 32) : Prop :=
  (∀ a x, ((![v405] : Fin 1 → IVec S16 32) a x).toNat < S48000.size a)
theorem k1_idx23_inb : ∀ (v405 : IVec S16 32) (k1_hw23 : k1_chk23 v405), ∀ a x, ((![v405] : Fin 1 → IVec S16 32) a x).toNat < S48000.size a := fun v405 k1_hw23 => k1_hw23

def k1_chk24 (v406 : IVec S16 32) : Prop :=
  (∀ a x, ((![v406] : Fin 1 → IVec S16 32) a x).toNat < S48000.size a)
theorem k1_idx24_inb : ∀ (v406 : IVec S16 32) (k1_hw24 : k1_chk24 v406), ∀ a x, ((![v406] : Fin 1 → IVec S16 32) a x).toNat < S48000.size a := fun v406 k1_hw24 => k1_hw24

def k1_chk25 (v407 : IVec S16 32) : Prop :=
  (∀ a x, ((![v407] : Fin 1 → IVec S16 32) a x).toNat < S48000.size a)
theorem k1_idx25_inb : ∀ (v407 : IVec S16 32) (k1_hw25 : k1_chk25 v407), ∀ a x, ((![v407] : Fin 1 → IVec S16 32) a x).toNat < S48000.size a := fun v407 k1_hw25 => k1_hw25

def k1_chk26 (v408 : IVec S16 32) : Prop :=
  (∀ a x, ((![v408] : Fin 1 → IVec S16 32) a x).toNat < S48000.size a)
theorem k1_idx26_inb : ∀ (v408 : IVec S16 32) (k1_hw26 : k1_chk26 v408), ∀ a x, ((![v408] : Fin 1 → IVec S16 32) a x).toNat < S48000.size a := fun v408 k1_hw26 => k1_hw26

def k1_chk27 (v409 : IVec S16 32) : Prop :=
  (∀ a x, ((![v409] : Fin 1 → IVec S16 32) a x).toNat < S48000.size a)
theorem k1_idx27_inb : ∀ (v409 : IVec S16 32) (k1_hw27 : k1_chk27 v409), ∀ a x, ((![v409] : Fin 1 → IVec S16 32) a x).toNat < S48000.size a := fun v409 k1_hw27 => k1_hw27

def k1_chk28 (v410 : IVec S16 32) : Prop :=
  (∀ a x, ((![v410] : Fin 1 → IVec S16 32) a x).toNat < S48000.size a)
theorem k1_idx28_inb : ∀ (v410 : IVec S16 32) (k1_hw28 : k1_chk28 v410), ∀ a x, ((![v410] : Fin 1 → IVec S16 32) a x).toNat < S48000.size a := fun v410 k1_hw28 => k1_hw28

def k1_chk29 (v411 : IVec S16 32) : Prop :=
  (∀ a x, ((![v411] : Fin 1 → IVec S16 32) a x).toNat < S48000.size a)
theorem k1_idx29_inb : ∀ (v411 : IVec S16 32) (k1_hw29 : k1_chk29 v411), ∀ a x, ((![v411] : Fin 1 → IVec S16 32) a x).toNat < S48000.size a := fun v411 k1_hw29 => k1_hw29

def k1_chk30 (v412 : IVec S16 32) : Prop :=
  (∀ a x, ((![v412] : Fin 1 → IVec S16 32) a x).toNat < S48000.size a)
theorem k1_idx30_inb : ∀ (v412 : IVec S16 32) (k1_hw30 : k1_chk30 v412), ∀ a x, ((![v412] : Fin 1 → IVec S16 32) a x).toNat < S48000.size a := fun v412 k1_hw30 => k1_hw30

def k1_chk31 (v413 : IVec S16 32) : Prop :=
  (∀ a x, ((![v413] : Fin 1 → IVec S16 32) a x).toNat < S48000.size a)
theorem k1_idx31_inb : ∀ (v413 : IVec S16 32) (k1_hw31 : k1_chk31 v413), ∀ a x, ((![v413] : Fin 1 → IVec S16 32) a x).toNat < S48000.size a := fun v413 k1_hw31 => k1_hw31

def k1_chk32 (v414 : IVec S16 32) : Prop :=
  (∀ a x, ((![v414] : Fin 1 → IVec S16 32) a x).toNat < S48000.size a)
theorem k1_idx32_inb : ∀ (v414 : IVec S16 32) (k1_hw32 : k1_chk32 v414), ∀ a x, ((![v414] : Fin 1 → IVec S16 32) a x).toNat < S48000.size a := fun v414 k1_hw32 => k1_hw32

def k1_chk33 (v415 : IVec S16 32) : Prop :=
  (∀ a x, ((![v415] : Fin 1 → IVec S16 32) a x).toNat < S48000.size a)
theorem k1_idx33_inb : ∀ (v415 : IVec S16 32) (k1_hw33 : k1_chk33 v415), ∀ a x, ((![v415] : Fin 1 → IVec S16 32) a x).toNat < S48000.size a := fun v415 k1_hw33 => k1_hw33

def k1_chk34 (v416 : IVec S16 32) : Prop :=
  (∀ a x, ((![v416] : Fin 1 → IVec S16 32) a x).toNat < S48000.size a)
theorem k1_idx34_inb : ∀ (v416 : IVec S16 32) (k1_hw34 : k1_chk34 v416), ∀ a x, ((![v416] : Fin 1 → IVec S16 32) a x).toNat < S48000.size a := fun v416 k1_hw34 => k1_hw34

def k1_chk35 (v417 : IVec S16 32) : Prop :=
  (∀ a x, ((![v417] : Fin 1 → IVec S16 32) a x).toNat < S48000.size a)
theorem k1_idx35_inb : ∀ (v417 : IVec S16 32) (k1_hw35 : k1_chk35 v417), ∀ a x, ((![v417] : Fin 1 → IVec S16 32) a x).toNat < S48000.size a := fun v417 k1_hw35 => k1_hw35

def k1_chk36 (v418 : IVec S16 32) : Prop :=
  (∀ a x, ((![v418] : Fin 1 → IVec S16 32) a x).toNat < S48000.size a)
theorem k1_idx36_inb : ∀ (v418 : IVec S16 32) (k1_hw36 : k1_chk36 v418), ∀ a x, ((![v418] : Fin 1 → IVec S16 32) a x).toNat < S48000.size a := fun v418 k1_hw36 => k1_hw36

def k1_chk37 (v419 : IVec S16 32) : Prop :=
  (∀ a x, ((![v419] : Fin 1 → IVec S16 32) a x).toNat < S48000.size a)
theorem k1_idx37_inb : ∀ (v419 : IVec S16 32) (k1_hw37 : k1_chk37 v419), ∀ a x, ((![v419] : Fin 1 → IVec S16 32) a x).toNat < S48000.size a := fun v419 k1_hw37 => k1_hw37

def k1_chk38 (v420 : IVec S16 32) : Prop :=
  (∀ a x, ((![v420] : Fin 1 → IVec S16 32) a x).toNat < S48000.size a)
theorem k1_idx38_inb : ∀ (v420 : IVec S16 32) (k1_hw38 : k1_chk38 v420), ∀ a x, ((![v420] : Fin 1 → IVec S16 32) a x).toNat < S48000.size a := fun v420 k1_hw38 => k1_hw38

def k1_chk39 (v421 : IVec S16 32) : Prop :=
  (∀ a x, ((![v421] : Fin 1 → IVec S16 32) a x).toNat < S48000.size a)
theorem k1_idx39_inb : ∀ (v421 : IVec S16 32) (k1_hw39 : k1_chk39 v421), ∀ a x, ((![v421] : Fin 1 → IVec S16 32) a x).toNat < S48000.size a := fun v421 k1_hw39 => k1_hw39

def k1_chk40 (v422 : IVec S16 32) : Prop :=
  (∀ a x, ((![v422] : Fin 1 → IVec S16 32) a x).toNat < S48000.size a)
theorem k1_idx40_inb : ∀ (v422 : IVec S16 32) (k1_hw40 : k1_chk40 v422), ∀ a x, ((![v422] : Fin 1 → IVec S16 32) a x).toNat < S48000.size a := fun v422 k1_hw40 => k1_hw40

def k1_chk41 (v423 : IVec S16 32) : Prop :=
  (∀ a x, ((![v423] : Fin 1 → IVec S16 32) a x).toNat < S48000.size a)
theorem k1_idx41_inb : ∀ (v423 : IVec S16 32) (k1_hw41 : k1_chk41 v423), ∀ a x, ((![v423] : Fin 1 → IVec S16 32) a x).toNat < S48000.size a := fun v423 k1_hw41 => k1_hw41

def k1_chk42 (v424 : IVec S16 32) : Prop :=
  (∀ a x, ((![v424] : Fin 1 → IVec S16 32) a x).toNat < S48000.size a)
theorem k1_idx42_inb : ∀ (v424 : IVec S16 32) (k1_hw42 : k1_chk42 v424), ∀ a x, ((![v424] : Fin 1 → IVec S16 32) a x).toNat < S48000.size a := fun v424 k1_hw42 => k1_hw42

def k1_chk43 (v425 : IVec S16 32) : Prop :=
  (∀ a x, ((![v425] : Fin 1 → IVec S16 32) a x).toNat < S48000.size a)
theorem k1_idx43_inb : ∀ (v425 : IVec S16 32) (k1_hw43 : k1_chk43 v425), ∀ a x, ((![v425] : Fin 1 → IVec S16 32) a x).toNat < S48000.size a := fun v425 k1_hw43 => k1_hw43

def k1_chk44 (v426 : IVec S16 32) : Prop :=
  (∀ a x, ((![v426] : Fin 1 → IVec S16 32) a x).toNat < S48000.size a)
theorem k1_idx44_inb : ∀ (v426 : IVec S16 32) (k1_hw44 : k1_chk44 v426), ∀ a x, ((![v426] : Fin 1 → IVec S16 32) a x).toNat < S48000.size a := fun v426 k1_hw44 => k1_hw44

def k1_chk45 (v427 : IVec S16 32) : Prop :=
  (∀ a x, ((![v427] : Fin 1 → IVec S16 32) a x).toNat < S48000.size a)
theorem k1_idx45_inb : ∀ (v427 : IVec S16 32) (k1_hw45 : k1_chk45 v427), ∀ a x, ((![v427] : Fin 1 → IVec S16 32) a x).toNat < S48000.size a := fun v427 k1_hw45 => k1_hw45

def k1_chk46 (v428 : IVec S16 32) : Prop :=
  (∀ a x, ((![v428] : Fin 1 → IVec S16 32) a x).toNat < S48000.size a)
theorem k1_idx46_inb : ∀ (v428 : IVec S16 32) (k1_hw46 : k1_chk46 v428), ∀ a x, ((![v428] : Fin 1 → IVec S16 32) a x).toNat < S48000.size a := fun v428 k1_hw46 => k1_hw46

def k1_chk47 (v429 : IVec S16 32) : Prop :=
  (∀ a x, ((![v429] : Fin 1 → IVec S16 32) a x).toNat < S48000.size a)
theorem k1_idx47_inb : ∀ (v429 : IVec S16 32) (k1_hw47 : k1_chk47 v429), ∀ a x, ((![v429] : Fin 1 → IVec S16 32) a x).toNat < S48000.size a := fun v429 k1_hw47 => k1_hw47

def k1_chk48 (v430 : IVec S16 32) : Prop :=
  (∀ a x, ((![v430] : Fin 1 → IVec S16 32) a x).toNat < S48000.size a)
theorem k1_idx48_inb : ∀ (v430 : IVec S16 32) (k1_hw48 : k1_chk48 v430), ∀ a x, ((![v430] : Fin 1 → IVec S16 32) a x).toNat < S48000.size a := fun v430 k1_hw48 => k1_hw48

def k1_chk49 (v431 : IVec S16 32) : Prop :=
  (∀ a x, ((![v431] : Fin 1 → IVec S16 32) a x).toNat < S48000.size a)
theorem k1_idx49_inb : ∀ (v431 : IVec S16 32) (k1_hw49 : k1_chk49 v431), ∀ a x, ((![v431] : Fin 1 → IVec S16 32) a x).toNat < S48000.size a := fun v431 k1_hw49 => k1_hw49

def k1_chk50 (v432 : IVec S16 32) : Prop :=
  (∀ a x, ((![v432] : Fin 1 → IVec S16 32) a x).toNat < S48000.size a)
theorem k1_idx50_inb : ∀ (v432 : IVec S16 32) (k1_hw50 : k1_chk50 v432), ∀ a x, ((![v432] : Fin 1 → IVec S16 32) a x).toNat < S48000.size a := fun v432 k1_hw50 => k1_hw50

def k1_chk51 (v433 : IVec S16 32) : Prop :=
  (∀ a x, ((![v433] : Fin 1 → IVec S16 32) a x).toNat < S48000.size a)
theorem k1_idx51_inb : ∀ (v433 : IVec S16 32) (k1_hw51 : k1_chk51 v433), ∀ a x, ((![v433] : Fin 1 → IVec S16 32) a x).toNat < S48000.size a := fun v433 k1_hw51 => k1_hw51

def k1_chk52 (v434 : IVec S16 32) : Prop :=
  (∀ a x, ((![v434] : Fin 1 → IVec S16 32) a x).toNat < S48000.size a)
theorem k1_idx52_inb : ∀ (v434 : IVec S16 32) (k1_hw52 : k1_chk52 v434), ∀ a x, ((![v434] : Fin 1 → IVec S16 32) a x).toNat < S48000.size a := fun v434 k1_hw52 => k1_hw52

def k1_chk53 (v435 : IVec S16 32) : Prop :=
  (∀ a x, ((![v435] : Fin 1 → IVec S16 32) a x).toNat < S48000.size a)
theorem k1_idx53_inb : ∀ (v435 : IVec S16 32) (k1_hw53 : k1_chk53 v435), ∀ a x, ((![v435] : Fin 1 → IVec S16 32) a x).toNat < S48000.size a := fun v435 k1_hw53 => k1_hw53

def k1_chk54 (v436 : IVec S16 32) : Prop :=
  (∀ a x, ((![v436] : Fin 1 → IVec S16 32) a x).toNat < S48000.size a)
theorem k1_idx54_inb : ∀ (v436 : IVec S16 32) (k1_hw54 : k1_chk54 v436), ∀ a x, ((![v436] : Fin 1 → IVec S16 32) a x).toNat < S48000.size a := fun v436 k1_hw54 => k1_hw54

def k1_chk55 (v437 : IVec S16 32) : Prop :=
  (∀ a x, ((![v437] : Fin 1 → IVec S16 32) a x).toNat < S48000.size a)
theorem k1_idx55_inb : ∀ (v437 : IVec S16 32) (k1_hw55 : k1_chk55 v437), ∀ a x, ((![v437] : Fin 1 → IVec S16 32) a x).toNat < S48000.size a := fun v437 k1_hw55 => k1_hw55

def k1_chk56 (v438 : IVec S16 32) : Prop :=
  (∀ a x, ((![v438] : Fin 1 → IVec S16 32) a x).toNat < S48000.size a)
theorem k1_idx56_inb : ∀ (v438 : IVec S16 32) (k1_hw56 : k1_chk56 v438), ∀ a x, ((![v438] : Fin 1 → IVec S16 32) a x).toNat < S48000.size a := fun v438 k1_hw56 => k1_hw56

def k1_chk57 (v439 : IVec S16 32) : Prop :=
  (∀ a x, ((![v439] : Fin 1 → IVec S16 32) a x).toNat < S48000.size a)
theorem k1_idx57_inb : ∀ (v439 : IVec S16 32) (k1_hw57 : k1_chk57 v439), ∀ a x, ((![v439] : Fin 1 → IVec S16 32) a x).toNat < S48000.size a := fun v439 k1_hw57 => k1_hw57

def k1_chk58 (v440 : IVec S16 32) : Prop :=
  (∀ a x, ((![v440] : Fin 1 → IVec S16 32) a x).toNat < S48000.size a)
theorem k1_idx58_inb : ∀ (v440 : IVec S16 32) (k1_hw58 : k1_chk58 v440), ∀ a x, ((![v440] : Fin 1 → IVec S16 32) a x).toNat < S48000.size a := fun v440 k1_hw58 => k1_hw58

def k1_chk59 (v441 : IVec S16 32) : Prop :=
  (∀ a x, ((![v441] : Fin 1 → IVec S16 32) a x).toNat < S48000.size a)
theorem k1_idx59_inb : ∀ (v441 : IVec S16 32) (k1_hw59 : k1_chk59 v441), ∀ a x, ((![v441] : Fin 1 → IVec S16 32) a x).toNat < S48000.size a := fun v441 k1_hw59 => k1_hw59

def k1_chk60 (v442 : IVec S16 32) : Prop :=
  (∀ a x, ((![v442] : Fin 1 → IVec S16 32) a x).toNat < S48000.size a)
theorem k1_idx60_inb : ∀ (v442 : IVec S16 32) (k1_hw60 : k1_chk60 v442), ∀ a x, ((![v442] : Fin 1 → IVec S16 32) a x).toNat < S48000.size a := fun v442 k1_hw60 => k1_hw60

def k1_chk61 (v443 : IVec S16 32) : Prop :=
  (∀ a x, ((![v443] : Fin 1 → IVec S16 32) a x).toNat < S48000.size a)
theorem k1_idx61_inb : ∀ (v443 : IVec S16 32) (k1_hw61 : k1_chk61 v443), ∀ a x, ((![v443] : Fin 1 → IVec S16 32) a x).toNat < S48000.size a := fun v443 k1_hw61 => k1_hw61

def k1_chk62 (v444 : IVec S16 32) : Prop :=
  (∀ a x, ((![v444] : Fin 1 → IVec S16 32) a x).toNat < S48000.size a)
theorem k1_idx62_inb : ∀ (v444 : IVec S16 32) (k1_hw62 : k1_chk62 v444), ∀ a x, ((![v444] : Fin 1 → IVec S16 32) a x).toNat < S48000.size a := fun v444 k1_hw62 => k1_hw62

def k1_chk63 (v445 : IVec S16 32) : Prop :=
  (∀ a x, ((![v445] : Fin 1 → IVec S16 32) a x).toNat < S48000.size a)
theorem k1_idx63_inb : ∀ (v445 : IVec S16 32) (k1_hw63 : k1_chk63 v445), ∀ a x, ((![v445] : Fin 1 → IVec S16 32) a x).toNat < S48000.size a := fun v445 k1_hw63 => k1_hw63

def k1_chk64 (v446 : IVec S16 32) : Prop :=
  (∀ a x, ((![v446] : Fin 1 → IVec S16 32) a x).toNat < S48000.size a)
theorem k1_idx64_inb : ∀ (v446 : IVec S16 32) (k1_hw64 : k1_chk64 v446), ∀ a x, ((![v446] : Fin 1 → IVec S16 32) a x).toNat < S48000.size a := fun v446 k1_hw64 => k1_hw64

def k1_chk65 (v447 : IVec S16 32) : Prop :=
  (∀ a x, ((![v447] : Fin 1 → IVec S16 32) a x).toNat < S48000.size a)
theorem k1_idx65_inb : ∀ (v447 : IVec S16 32) (k1_hw65 : k1_chk65 v447), ∀ a x, ((![v447] : Fin 1 → IVec S16 32) a x).toNat < S48000.size a := fun v447 k1_hw65 => k1_hw65

def k1_chk66 (v448 : IVec S16 32) : Prop :=
  (∀ a x, ((![v448] : Fin 1 → IVec S16 32) a x).toNat < S48000.size a)
theorem k1_idx66_inb : ∀ (v448 : IVec S16 32) (k1_hw66 : k1_chk66 v448), ∀ a x, ((![v448] : Fin 1 → IVec S16 32) a x).toNat < S48000.size a := fun v448 k1_hw66 => k1_hw66

def k1_chk67 (v449 : IVec S16 32) : Prop :=
  (∀ a x, ((![v449] : Fin 1 → IVec S16 32) a x).toNat < S48000.size a)
theorem k1_idx67_inb : ∀ (v449 : IVec S16 32) (k1_hw67 : k1_chk67 v449), ∀ a x, ((![v449] : Fin 1 → IVec S16 32) a x).toNat < S48000.size a := fun v449 k1_hw67 => k1_hw67

def k1_chk68 (v450 : IVec S16 32) : Prop :=
  (∀ a x, ((![v450] : Fin 1 → IVec S16 32) a x).toNat < S48000.size a)
theorem k1_idx68_inb : ∀ (v450 : IVec S16 32) (k1_hw68 : k1_chk68 v450), ∀ a x, ((![v450] : Fin 1 → IVec S16 32) a x).toNat < S48000.size a := fun v450 k1_hw68 => k1_hw68

def k1_chk69 (v451 : IVec S16 32) : Prop :=
  (∀ a x, ((![v451] : Fin 1 → IVec S16 32) a x).toNat < S48000.size a)
theorem k1_idx69_inb : ∀ (v451 : IVec S16 32) (k1_hw69 : k1_chk69 v451), ∀ a x, ((![v451] : Fin 1 → IVec S16 32) a x).toNat < S48000.size a := fun v451 k1_hw69 => k1_hw69

def k1_chk70 (v452 : IVec S16 32) : Prop :=
  (∀ a x, ((![v452] : Fin 1 → IVec S16 32) a x).toNat < S48000.size a)
theorem k1_idx70_inb : ∀ (v452 : IVec S16 32) (k1_hw70 : k1_chk70 v452), ∀ a x, ((![v452] : Fin 1 → IVec S16 32) a x).toNat < S48000.size a := fun v452 k1_hw70 => k1_hw70

def k1_chk71 (v453 : IVec S16 32) : Prop :=
  (∀ a x, ((![v453] : Fin 1 → IVec S16 32) a x).toNat < S48000.size a)
theorem k1_idx71_inb : ∀ (v453 : IVec S16 32) (k1_hw71 : k1_chk71 v453), ∀ a x, ((![v453] : Fin 1 → IVec S16 32) a x).toNat < S48000.size a := fun v453 k1_hw71 => k1_hw71

def k1_chk72 (v454 : IVec S16 32) : Prop :=
  (∀ a x, ((![v454] : Fin 1 → IVec S16 32) a x).toNat < S48000.size a)
theorem k1_idx72_inb : ∀ (v454 : IVec S16 32) (k1_hw72 : k1_chk72 v454), ∀ a x, ((![v454] : Fin 1 → IVec S16 32) a x).toNat < S48000.size a := fun v454 k1_hw72 => k1_hw72

def k1_chk73 (v455 : IVec S16 32) : Prop :=
  (∀ a x, ((![v455] : Fin 1 → IVec S16 32) a x).toNat < S48000.size a)
theorem k1_idx73_inb : ∀ (v455 : IVec S16 32) (k1_hw73 : k1_chk73 v455), ∀ a x, ((![v455] : Fin 1 → IVec S16 32) a x).toNat < S48000.size a := fun v455 k1_hw73 => k1_hw73

def k1_chk74 (v456 : IVec S16 32) : Prop :=
  (∀ a x, ((![v456] : Fin 1 → IVec S16 32) a x).toNat < S48000.size a)
theorem k1_idx74_inb : ∀ (v456 : IVec S16 32) (k1_hw74 : k1_chk74 v456), ∀ a x, ((![v456] : Fin 1 → IVec S16 32) a x).toNat < S48000.size a := fun v456 k1_hw74 => k1_hw74

def k1_chk75 (v457 : IVec S16 32) : Prop :=
  (∀ a x, ((![v457] : Fin 1 → IVec S16 32) a x).toNat < S48000.size a)
theorem k1_idx75_inb : ∀ (v457 : IVec S16 32) (k1_hw75 : k1_chk75 v457), ∀ a x, ((![v457] : Fin 1 → IVec S16 32) a x).toNat < S48000.size a := fun v457 k1_hw75 => k1_hw75

def k1_chk76 (v458 : IVec S16 32) : Prop :=
  (∀ a x, ((![v458] : Fin 1 → IVec S16 32) a x).toNat < S48000.size a)
theorem k1_idx76_inb : ∀ (v458 : IVec S16 32) (k1_hw76 : k1_chk76 v458), ∀ a x, ((![v458] : Fin 1 → IVec S16 32) a x).toNat < S48000.size a := fun v458 k1_hw76 => k1_hw76

def k1_chk77 (v459 : IVec S16 32) : Prop :=
  (∀ a x, ((![v459] : Fin 1 → IVec S16 32) a x).toNat < S48000.size a)
theorem k1_idx77_inb : ∀ (v459 : IVec S16 32) (k1_hw77 : k1_chk77 v459), ∀ a x, ((![v459] : Fin 1 → IVec S16 32) a x).toNat < S48000.size a := fun v459 k1_hw77 => k1_hw77

def k1_chk78 (v460 : IVec S16 32) : Prop :=
  (∀ a x, ((![v460] : Fin 1 → IVec S16 32) a x).toNat < S48000.size a)
theorem k1_idx78_inb : ∀ (v460 : IVec S16 32) (k1_hw78 : k1_chk78 v460), ∀ a x, ((![v460] : Fin 1 → IVec S16 32) a x).toNat < S48000.size a := fun v460 k1_hw78 => k1_hw78

def k1_chk79 (v461 : IVec S16 32) : Prop :=
  (∀ a x, ((![v461] : Fin 1 → IVec S16 32) a x).toNat < S48000.size a)
theorem k1_idx79_inb : ∀ (v461 : IVec S16 32) (k1_hw79 : k1_chk79 v461), ∀ a x, ((![v461] : Fin 1 → IVec S16 32) a x).toNat < S48000.size a := fun v461 k1_hw79 => k1_hw79

def k1_chk80 (v462 : IVec S16 32) : Prop :=
  (∀ a x, ((![v462] : Fin 1 → IVec S16 32) a x).toNat < S48000.size a)
theorem k1_idx80_inb : ∀ (v462 : IVec S16 32) (k1_hw80 : k1_chk80 v462), ∀ a x, ((![v462] : Fin 1 → IVec S16 32) a x).toNat < S48000.size a := fun v462 k1_hw80 => k1_hw80

def k1_chk81 (v463 : IVec S16 32) : Prop :=
  (∀ a x, ((![v463] : Fin 1 → IVec S16 32) a x).toNat < S48000.size a)
theorem k1_idx81_inb : ∀ (v463 : IVec S16 32) (k1_hw81 : k1_chk81 v463), ∀ a x, ((![v463] : Fin 1 → IVec S16 32) a x).toNat < S48000.size a := fun v463 k1_hw81 => k1_hw81

def k1_chk82 (v464 : IVec S16 32) : Prop :=
  (∀ a x, ((![v464] : Fin 1 → IVec S16 32) a x).toNat < S48000.size a)
theorem k1_idx82_inb : ∀ (v464 : IVec S16 32) (k1_hw82 : k1_chk82 v464), ∀ a x, ((![v464] : Fin 1 → IVec S16 32) a x).toNat < S48000.size a := fun v464 k1_hw82 => k1_hw82

def k1_chk83 (v465 : IVec S16 32) : Prop :=
  (∀ a x, ((![v465] : Fin 1 → IVec S16 32) a x).toNat < S48000.size a)
theorem k1_idx83_inb : ∀ (v465 : IVec S16 32) (k1_hw83 : k1_chk83 v465), ∀ a x, ((![v465] : Fin 1 → IVec S16 32) a x).toNat < S48000.size a := fun v465 k1_hw83 => k1_hw83

def k1_chk84 (v466 : IVec S16 32) : Prop :=
  (∀ a x, ((![v466] : Fin 1 → IVec S16 32) a x).toNat < S48000.size a)
theorem k1_idx84_inb : ∀ (v466 : IVec S16 32) (k1_hw84 : k1_chk84 v466), ∀ a x, ((![v466] : Fin 1 → IVec S16 32) a x).toNat < S48000.size a := fun v466 k1_hw84 => k1_hw84

def k1_chk85 (v467 : IVec S16 32) : Prop :=
  (∀ a x, ((![v467] : Fin 1 → IVec S16 32) a x).toNat < S48000.size a)
theorem k1_idx85_inb : ∀ (v467 : IVec S16 32) (k1_hw85 : k1_chk85 v467), ∀ a x, ((![v467] : Fin 1 → IVec S16 32) a x).toNat < S48000.size a := fun v467 k1_hw85 => k1_hw85

def k1_chk86 (v468 : IVec S16 32) : Prop :=
  (∀ a x, ((![v468] : Fin 1 → IVec S16 32) a x).toNat < S48000.size a)
theorem k1_idx86_inb : ∀ (v468 : IVec S16 32) (k1_hw86 : k1_chk86 v468), ∀ a x, ((![v468] : Fin 1 → IVec S16 32) a x).toNat < S48000.size a := fun v468 k1_hw86 => k1_hw86

def k1_chk87 (v469 : IVec S16 32) : Prop :=
  (∀ a x, ((![v469] : Fin 1 → IVec S16 32) a x).toNat < S48000.size a)
theorem k1_idx87_inb : ∀ (v469 : IVec S16 32) (k1_hw87 : k1_chk87 v469), ∀ a x, ((![v469] : Fin 1 → IVec S16 32) a x).toNat < S48000.size a := fun v469 k1_hw87 => k1_hw87

def k1_chk88 (v470 : IVec S16 32) : Prop :=
  (∀ a x, ((![v470] : Fin 1 → IVec S16 32) a x).toNat < S48000.size a)
theorem k1_idx88_inb : ∀ (v470 : IVec S16 32) (k1_hw88 : k1_chk88 v470), ∀ a x, ((![v470] : Fin 1 → IVec S16 32) a x).toNat < S48000.size a := fun v470 k1_hw88 => k1_hw88

def k1_chk89 (v471 : IVec S16 32) : Prop :=
  (∀ a x, ((![v471] : Fin 1 → IVec S16 32) a x).toNat < S48000.size a)
theorem k1_idx89_inb : ∀ (v471 : IVec S16 32) (k1_hw89 : k1_chk89 v471), ∀ a x, ((![v471] : Fin 1 → IVec S16 32) a x).toNat < S48000.size a := fun v471 k1_hw89 => k1_hw89

def k1_chk90 (v472 : IVec S16 32) : Prop :=
  (∀ a x, ((![v472] : Fin 1 → IVec S16 32) a x).toNat < S48000.size a)
theorem k1_idx90_inb : ∀ (v472 : IVec S16 32) (k1_hw90 : k1_chk90 v472), ∀ a x, ((![v472] : Fin 1 → IVec S16 32) a x).toNat < S48000.size a := fun v472 k1_hw90 => k1_hw90

def k1_chk91 (v473 : IVec S16 32) : Prop :=
  (∀ a x, ((![v473] : Fin 1 → IVec S16 32) a x).toNat < S48000.size a)
theorem k1_idx91_inb : ∀ (v473 : IVec S16 32) (k1_hw91 : k1_chk91 v473), ∀ a x, ((![v473] : Fin 1 → IVec S16 32) a x).toNat < S48000.size a := fun v473 k1_hw91 => k1_hw91

def k1_chk92 (v474 : IVec S16 32) : Prop :=
  (∀ a x, ((![v474] : Fin 1 → IVec S16 32) a x).toNat < S48000.size a)
theorem k1_idx92_inb : ∀ (v474 : IVec S16 32) (k1_hw92 : k1_chk92 v474), ∀ a x, ((![v474] : Fin 1 → IVec S16 32) a x).toNat < S48000.size a := fun v474 k1_hw92 => k1_hw92

def k1_chk93 (v475 : IVec S16 32) : Prop :=
  (∀ a x, ((![v475] : Fin 1 → IVec S16 32) a x).toNat < S48000.size a)
theorem k1_idx93_inb : ∀ (v475 : IVec S16 32) (k1_hw93 : k1_chk93 v475), ∀ a x, ((![v475] : Fin 1 → IVec S16 32) a x).toNat < S48000.size a := fun v475 k1_hw93 => k1_hw93

def k1_chk94 (v476 : IVec S16 32) : Prop :=
  (∀ a x, ((![v476] : Fin 1 → IVec S16 32) a x).toNat < S48000.size a)
theorem k1_idx94_inb : ∀ (v476 : IVec S16 32) (k1_hw94 : k1_chk94 v476), ∀ a x, ((![v476] : Fin 1 → IVec S16 32) a x).toNat < S48000.size a := fun v476 k1_hw94 => k1_hw94

def k1_chk95 (v477 : IVec S16 32) : Prop :=
  (∀ a x, ((![v477] : Fin 1 → IVec S16 32) a x).toNat < S48000.size a)
theorem k1_idx95_inb : ∀ (v477 : IVec S16 32) (k1_hw95 : k1_chk95 v477), ∀ a x, ((![v477] : Fin 1 → IVec S16 32) a x).toNat < S48000.size a := fun v477 k1_hw95 => k1_hw95

def k1_chk96 (v478 : IVec S16 32) : Prop :=
  (∀ a x, ((![v478] : Fin 1 → IVec S16 32) a x).toNat < S48000.size a)
theorem k1_idx96_inb : ∀ (v478 : IVec S16 32) (k1_hw96 : k1_chk96 v478), ∀ a x, ((![v478] : Fin 1 → IVec S16 32) a x).toNat < S48000.size a := fun v478 k1_hw96 => k1_hw96

def k1_chk97 (v479 : IVec S16 32) : Prop :=
  (∀ a x, ((![v479] : Fin 1 → IVec S16 32) a x).toNat < S48000.size a)
theorem k1_idx97_inb : ∀ (v479 : IVec S16 32) (k1_hw97 : k1_chk97 v479), ∀ a x, ((![v479] : Fin 1 → IVec S16 32) a x).toNat < S48000.size a := fun v479 k1_hw97 => k1_hw97

def k1_chk98 (v480 : IVec S16 32) : Prop :=
  (∀ a x, ((![v480] : Fin 1 → IVec S16 32) a x).toNat < S48000.size a)
theorem k1_idx98_inb : ∀ (v480 : IVec S16 32) (k1_hw98 : k1_chk98 v480), ∀ a x, ((![v480] : Fin 1 → IVec S16 32) a x).toNat < S48000.size a := fun v480 k1_hw98 => k1_hw98

def k1_chk99 (v481 : IVec S16 32) : Prop :=
  (∀ a x, ((![v481] : Fin 1 → IVec S16 32) a x).toNat < S48000.size a)
theorem k1_idx99_inb : ∀ (v481 : IVec S16 32) (k1_hw99 : k1_chk99 v481), ∀ a x, ((![v481] : Fin 1 → IVec S16 32) a x).toNat < S48000.size a := fun v481 k1_hw99 => k1_hw99

def k1_chk100 (v482 : IVec S16 32) : Prop :=
  (∀ a x, ((![v482] : Fin 1 → IVec S16 32) a x).toNat < S48000.size a)
theorem k1_idx100_inb : ∀ (v482 : IVec S16 32) (k1_hw100 : k1_chk100 v482), ∀ a x, ((![v482] : Fin 1 → IVec S16 32) a x).toNat < S48000.size a := fun v482 k1_hw100 => k1_hw100

def k1_chk101 (v483 : IVec S16 32) : Prop :=
  (∀ a x, ((![v483] : Fin 1 → IVec S16 32) a x).toNat < S48000.size a)
theorem k1_idx101_inb : ∀ (v483 : IVec S16 32) (k1_hw101 : k1_chk101 v483), ∀ a x, ((![v483] : Fin 1 → IVec S16 32) a x).toNat < S48000.size a := fun v483 k1_hw101 => k1_hw101

def k1_chk102 (v484 : IVec S16 32) : Prop :=
  (∀ a x, ((![v484] : Fin 1 → IVec S16 32) a x).toNat < S48000.size a)
theorem k1_idx102_inb : ∀ (v484 : IVec S16 32) (k1_hw102 : k1_chk102 v484), ∀ a x, ((![v484] : Fin 1 → IVec S16 32) a x).toNat < S48000.size a := fun v484 k1_hw102 => k1_hw102

def k1_chk103 (v485 : IVec S16 32) : Prop :=
  (∀ a x, ((![v485] : Fin 1 → IVec S16 32) a x).toNat < S48000.size a)
theorem k1_idx103_inb : ∀ (v485 : IVec S16 32) (k1_hw103 : k1_chk103 v485), ∀ a x, ((![v485] : Fin 1 → IVec S16 32) a x).toNat < S48000.size a := fun v485 k1_hw103 => k1_hw103

def k1_chk104 (v486 : IVec S16 32) : Prop :=
  (∀ a x, ((![v486] : Fin 1 → IVec S16 32) a x).toNat < S48000.size a)
theorem k1_idx104_inb : ∀ (v486 : IVec S16 32) (k1_hw104 : k1_chk104 v486), ∀ a x, ((![v486] : Fin 1 → IVec S16 32) a x).toNat < S48000.size a := fun v486 k1_hw104 => k1_hw104

def k1_chk105 (v487 : IVec S16 32) : Prop :=
  (∀ a x, ((![v487] : Fin 1 → IVec S16 32) a x).toNat < S48000.size a)
theorem k1_idx105_inb : ∀ (v487 : IVec S16 32) (k1_hw105 : k1_chk105 v487), ∀ a x, ((![v487] : Fin 1 → IVec S16 32) a x).toNat < S48000.size a := fun v487 k1_hw105 => k1_hw105

def k1_chk106 (v488 : IVec S16 32) : Prop :=
  (∀ a x, ((![v488] : Fin 1 → IVec S16 32) a x).toNat < S48000.size a)
theorem k1_idx106_inb : ∀ (v488 : IVec S16 32) (k1_hw106 : k1_chk106 v488), ∀ a x, ((![v488] : Fin 1 → IVec S16 32) a x).toNat < S48000.size a := fun v488 k1_hw106 => k1_hw106

def k1_chk107 (v489 : IVec S16 32) : Prop :=
  (∀ a x, ((![v489] : Fin 1 → IVec S16 32) a x).toNat < S48000.size a)
theorem k1_idx107_inb : ∀ (v489 : IVec S16 32) (k1_hw107 : k1_chk107 v489), ∀ a x, ((![v489] : Fin 1 → IVec S16 32) a x).toNat < S48000.size a := fun v489 k1_hw107 => k1_hw107

def k1_chk108 (v490 : IVec S16 32) : Prop :=
  (∀ a x, ((![v490] : Fin 1 → IVec S16 32) a x).toNat < S48000.size a)
theorem k1_idx108_inb : ∀ (v490 : IVec S16 32) (k1_hw108 : k1_chk108 v490), ∀ a x, ((![v490] : Fin 1 → IVec S16 32) a x).toNat < S48000.size a := fun v490 k1_hw108 => k1_hw108

def k1_chk109 (v491 : IVec S16 32) : Prop :=
  (∀ a x, ((![v491] : Fin 1 → IVec S16 32) a x).toNat < S48000.size a)
theorem k1_idx109_inb : ∀ (v491 : IVec S16 32) (k1_hw109 : k1_chk109 v491), ∀ a x, ((![v491] : Fin 1 → IVec S16 32) a x).toNat < S48000.size a := fun v491 k1_hw109 => k1_hw109

def k1_chk110 (v492 : IVec S16 32) : Prop :=
  (∀ a x, ((![v492] : Fin 1 → IVec S16 32) a x).toNat < S48000.size a)
theorem k1_idx110_inb : ∀ (v492 : IVec S16 32) (k1_hw110 : k1_chk110 v492), ∀ a x, ((![v492] : Fin 1 → IVec S16 32) a x).toNat < S48000.size a := fun v492 k1_hw110 => k1_hw110

def k1_chk111 (v493 : IVec S16 32) : Prop :=
  (∀ a x, ((![v493] : Fin 1 → IVec S16 32) a x).toNat < S48000.size a)
theorem k1_idx111_inb : ∀ (v493 : IVec S16 32) (k1_hw111 : k1_chk111 v493), ∀ a x, ((![v493] : Fin 1 → IVec S16 32) a x).toNat < S48000.size a := fun v493 k1_hw111 => k1_hw111

def k1_chk112 (v494 : IVec S16 32) : Prop :=
  (∀ a x, ((![v494] : Fin 1 → IVec S16 32) a x).toNat < S48000.size a)
theorem k1_idx112_inb : ∀ (v494 : IVec S16 32) (k1_hw112 : k1_chk112 v494), ∀ a x, ((![v494] : Fin 1 → IVec S16 32) a x).toNat < S48000.size a := fun v494 k1_hw112 => k1_hw112

def k1_chk113 (v495 : IVec S16 32) : Prop :=
  (∀ a x, ((![v495] : Fin 1 → IVec S16 32) a x).toNat < S48000.size a)
theorem k1_idx113_inb : ∀ (v495 : IVec S16 32) (k1_hw113 : k1_chk113 v495), ∀ a x, ((![v495] : Fin 1 → IVec S16 32) a x).toNat < S48000.size a := fun v495 k1_hw113 => k1_hw113

def k1_chk114 (v496 : IVec S16 32) : Prop :=
  (∀ a x, ((![v496] : Fin 1 → IVec S16 32) a x).toNat < S48000.size a)
theorem k1_idx114_inb : ∀ (v496 : IVec S16 32) (k1_hw114 : k1_chk114 v496), ∀ a x, ((![v496] : Fin 1 → IVec S16 32) a x).toNat < S48000.size a := fun v496 k1_hw114 => k1_hw114

def k1_chk115 (v497 : IVec S16 32) : Prop :=
  (∀ a x, ((![v497] : Fin 1 → IVec S16 32) a x).toNat < S48000.size a)
theorem k1_idx115_inb : ∀ (v497 : IVec S16 32) (k1_hw115 : k1_chk115 v497), ∀ a x, ((![v497] : Fin 1 → IVec S16 32) a x).toNat < S48000.size a := fun v497 k1_hw115 => k1_hw115

def k1_chk116 (v498 : IVec S16 32) : Prop :=
  (∀ a x, ((![v498] : Fin 1 → IVec S16 32) a x).toNat < S48000.size a)
theorem k1_idx116_inb : ∀ (v498 : IVec S16 32) (k1_hw116 : k1_chk116 v498), ∀ a x, ((![v498] : Fin 1 → IVec S16 32) a x).toNat < S48000.size a := fun v498 k1_hw116 => k1_hw116

def k1_chk117 (v499 : IVec S16 32) : Prop :=
  (∀ a x, ((![v499] : Fin 1 → IVec S16 32) a x).toNat < S48000.size a)
theorem k1_idx117_inb : ∀ (v499 : IVec S16 32) (k1_hw117 : k1_chk117 v499), ∀ a x, ((![v499] : Fin 1 → IVec S16 32) a x).toNat < S48000.size a := fun v499 k1_hw117 => k1_hw117

def k1_chk118 (v500 : IVec S16 32) : Prop :=
  (∀ a x, ((![v500] : Fin 1 → IVec S16 32) a x).toNat < S48000.size a)
theorem k1_idx118_inb : ∀ (v500 : IVec S16 32) (k1_hw118 : k1_chk118 v500), ∀ a x, ((![v500] : Fin 1 → IVec S16 32) a x).toNat < S48000.size a := fun v500 k1_hw118 => k1_hw118

def k1_chk119 (v501 : IVec S16 32) : Prop :=
  (∀ a x, ((![v501] : Fin 1 → IVec S16 32) a x).toNat < S48000.size a)
theorem k1_idx119_inb : ∀ (v501 : IVec S16 32) (k1_hw119 : k1_chk119 v501), ∀ a x, ((![v501] : Fin 1 → IVec S16 32) a x).toNat < S48000.size a := fun v501 k1_hw119 => k1_hw119

def k1_chk120 (v502 : IVec S16 32) : Prop :=
  (∀ a x, ((![v502] : Fin 1 → IVec S16 32) a x).toNat < S48000.size a)
theorem k1_idx120_inb : ∀ (v502 : IVec S16 32) (k1_hw120 : k1_chk120 v502), ∀ a x, ((![v502] : Fin 1 → IVec S16 32) a x).toNat < S48000.size a := fun v502 k1_hw120 => k1_hw120
def k1_off18 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6_r3 : BitVec 32 := 0#32
  ![v1.toNat, 0]
abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S32x120x400 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S400x20 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S20x400 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S400x20 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S20x400 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S120x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S120x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S16x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x65536x16 : Shape := ⟨3, ![8, 65536, 16]⟩
abbrev S_ : Shape := ⟨0, ![]⟩
abbrev S16 : Shape := ⟨1, ![16]⟩
abbrev S1x1x16 : Shape := ⟨3, ![1, 1, 16]⟩
abbrev S524288x16 : Shape := ⟨2, ![524288, 16]⟩
abbrev S524288x16x1 : Shape := ⟨3, ![524288, 16, 1]⟩
abbrev S20 : Shape := ⟨1, ![20]⟩
abbrev S1x1x20 : Shape := ⟨3, ![1, 1, 20]⟩
abbrev S524288x16x20 : Shape := ⟨3, ![524288, 16, 20]⟩
abbrev S16x20 : Shape := ⟨2, ![16, 20]⟩
abbrev S16x1 : Shape := ⟨2, ![16, 1]⟩
abbrev S16x20x16x20 : Shape := ⟨4, ![16, 20, 16, 20]⟩
abbrev S16x16x20x20 : Shape := ⟨4, ![16, 16, 20, 20]⟩
abbrev S16x16 : Shape := ⟨2, ![16, 16]⟩
abbrev S16x16x1x1 : Shape := ⟨4, ![16, 16, 1, 1]⟩
abbrev S16x16x20 : Shape := ⟨3, ![16, 16, 20]⟩
abbrev S16x16x20x1 : Shape := ⟨4, ![16, 16, 20, 1]⟩
abbrev S16x16x1x20 : Shape := ⟨4, ![16, 16, 1, 20]⟩
abbrev S1x16 : Shape := ⟨2, ![1, 16]⟩
abbrev S1x16x16 : Shape := ⟨3, ![1, 16, 16]⟩
abbrev S8x16x16 : Shape := ⟨3, ![8, 16, 16]⟩

abbrev nBuf : Space → Nat
  | .hbm => 94
  | .vmem => 0
  | .smem => 0
  | _ => 0

abbrev bufTy : (tb : Table) → Fin (tcTables nBuf tb) → BufTy
  | .hbm, ⟨0, _⟩ => ⟨S8x65536x16, .f32⟩
  | .hbm, ⟨1, _⟩ => ⟨S_, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S1x1x16, .f32⟩
  | .hbm, ⟨10, _⟩ => ⟨S8x65536x16, .f32⟩
  | .hbm, ⟨11, _⟩ => ⟨S8x65536x16, .f32⟩
  | .hbm, ⟨12, _⟩ => ⟨S1x1x16, .f32⟩
  | .hbm, ⟨13, _⟩ => ⟨S8x65536x16, .f32⟩
  | .hbm, ⟨14, _⟩ => ⟨S8x65536x16, .f32⟩
  | .hbm, ⟨15, _⟩ => ⟨S8x65536x16, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S8x65536x16, .i32⟩
  | .hbm, ⟨20, _⟩ => ⟨S8x65536x16, .i32⟩
  | .hbm, ⟨21, _⟩ => ⟨S_, .i32⟩
  | .hbm, ⟨22, _⟩ => ⟨S8x65536x16, .i32⟩
  | .hbm, ⟨23, _⟩ => ⟨S8x65536x16, .i32⟩
  | .hbm, ⟨24, _⟩ => ⟨S524288x16, .i32⟩
  | .hbm, ⟨25, _⟩ => ⟨S524288x16x1, .i32⟩
  | .hbm, ⟨26, _⟩ => ⟨S20, .i32⟩
  | .hbm, ⟨27, _⟩ => ⟨S1x1x20, .i32⟩
  | .hbm, ⟨28, _⟩ => ⟨S524288x16x20, .i32⟩
  | .hbm, ⟨29, _⟩ => ⟨S524288x16x20, .i32⟩
  | .hbm, ⟨30, _⟩ => ⟨S524288x16x20, .i1⟩
  | .hbm, ⟨31, _⟩ => ⟨S524288x16x20, .f32⟩
  | .hbm, ⟨32, _⟩ => ⟨S_, .f32⟩
  | .hbm, ⟨33, _⟩ => ⟨S16x20, .f32⟩
  | .hbm, ⟨34, _⟩ => ⟨S_, .f32⟩
  | .hbm, ⟨35, _⟩ => ⟨S16, .f32⟩
  | .hbm, ⟨36, _⟩ => ⟨S16x1, .f32⟩
  | .hbm, ⟨37, _⟩ => ⟨S16x20, .f32⟩
  | .hbm, ⟨38, _⟩ => ⟨S16x20, .f32⟩
  | .hbm, ⟨39, _⟩ => ⟨S_, .f32⟩
  | .hbm, ⟨40, _⟩ => ⟨S16x20, .f32⟩
  | .hbm, ⟨41, _⟩ => ⟨S16x20, .f32⟩
  | .hbm, ⟨42, _⟩ => ⟨S16x20, .f32⟩
  | .hbm, ⟨43, _⟩ => ⟨S16x20, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S16x20x16x20, .f32⟩
  | .hbm, ⟨48, _⟩ => ⟨S16x16x20x20, .f32⟩
  | .hbm, ⟨49, _⟩ => ⟨S_, .f32⟩
  | .hbm, ⟨50, _⟩ => ⟨S16x16, .f32⟩
  | .hbm, ⟨51, _⟩ => ⟨S16x16x1x1, .f32⟩
  | .hbm, ⟨52, _⟩ => ⟨S16x16x20x20, .f32⟩
  | .hbm, ⟨53, _⟩ => ⟨S16x16x20x20, .f32⟩
  | .hbm, ⟨54, _⟩ => ⟨S_, .f32⟩
  | .hbm, ⟨55, _⟩ => ⟨S16x16x20, .f32⟩
  | .hbm, ⟨56, _⟩ => ⟨S_, .f32⟩
  | .hbm, ⟨57, _⟩ => ⟨S16x16x20, .f32⟩
  | .hbm, ⟨58, _⟩ => ⟨S16x16x20x1, .f32⟩
  | .hbm, ⟨59, _⟩ => ⟨S16x16x1x20, .f32⟩
  | .hbm, ⟨60, _⟩ => ⟨S16x16x20x20, .f32⟩
  | .hbm, ⟨61, _⟩ => ⟨S16x16x20x20, .f32⟩
  | .hbm, ⟨62, _⟩ => ⟨S16x16x20x20, .f32⟩
  | .hbm, ⟨63, _⟩ => ⟨S16x16x20x20, .f32⟩
  | .hbm, ⟨64, _⟩ => ⟨S_, .f32⟩
  | .hbm, ⟨65, _⟩ => ⟨S16x16x20x20, .f32⟩
  | .hbm, ⟨66, _⟩ => ⟨S16x16x20x20, .f32⟩
  | .hbm, ⟨67, _⟩ => ⟨S16x16x20x20, .f32⟩
  | .hbm, ⟨68, _⟩ => ⟨S16x16x20x20, .f32⟩
  | .hbm, ⟨69, _⟩ => ⟨S_, .f32⟩
  | .hbm, ⟨70, _⟩ => ⟨S16x16, .f32⟩
  | .hbm, ⟨71, _⟩ => ⟨S16x1, .f32⟩
  | .hbm, ⟨72, _⟩ => ⟨S1x16, .f32⟩
  | .hbm, ⟨73, _⟩ => ⟨S16x16, .f32⟩
  | .hbm, ⟨74, _⟩ => ⟨S16x16, .f32⟩
  | .hbm, ⟨75, _⟩ => ⟨S16x16, .f32⟩
  | .hbm, ⟨76, _⟩ => ⟨S_, .f32⟩
  | .hbm, ⟨77, _⟩ => ⟨S16x16, .f32⟩
  | .hbm, ⟨78, _⟩ => ⟨S16x16, .f32⟩
  | .hbm, ⟨79, _⟩ => ⟨S16x16, .f32⟩
  | .hbm, ⟨80, _⟩ => ⟨S16, .i32⟩
  | .hbm, ⟨81, _⟩ => ⟨S16x1, .i32⟩
  | .hbm, ⟨82, _⟩ => ⟨S1x16, .i32⟩
  | .hbm, ⟨83, _⟩ => ⟨S16x16, .i32⟩
  | .hbm, ⟨84, _⟩ => ⟨S16x16, .i32⟩
  | .hbm, ⟨85, _⟩ => ⟨S16x16, .i1⟩
  | .hbm, ⟨86, _⟩ => ⟨S_, .f32⟩
  | .hbm, ⟨87, _⟩ => ⟨S_, .f32⟩
  | .hbm, ⟨88, _⟩ => ⟨S16x16, .f32⟩
  | .hbm, ⟨89, _⟩ => ⟨S16x16, .f32⟩
  | .hbm, ⟨90, _⟩ => ⟨S16x16, .f32⟩
  | .hbm, ⟨91, _⟩ => ⟨S16x16, .f32⟩
  | .hbm, ⟨92, _⟩ => ⟨S1x16x16, .f32⟩
  | .hbm, ⟨93, _⟩ => ⟨S8x16x16, .f32⟩
  | _, _ => ⟨S8x65536x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_c_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== Proof.Common.lean ====
/-
  What every module of the kernel's run shares: the launch theorem's configuration at this program (two TensorCore
  calls and one SparseCore call of two SparseCores and sixteen tiles each), the resource algebra, and the memory.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open Idealize.SL.Sem
open Idealize.ShloMosaic.Rounds

variable {F : FTy → Type}

/-- The labels of the program's own effects, the pipelines' entries included. -/
abbrev ΛP : Labels := Pipeline.Sig Λ₀ (Fin 2) fun p => (pcfgs (F := F) p).Adm
/-- The SparseCore configuration of the program. -/
abbrev K : SparseCore.Cfg τ sig (ΛP (F := F)) 1 := sc (F := F)
/-- The body table under the SparseCore calls. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The semaphores of the handshakes are distinct, unscoped, and no SparseCore array is shared among its tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds library. -/
abbrev UH : Type := URounds (GSem nD τ sig) ℕ
/-- The pipelines' rounds library. -/
abbrev UP : Type := URounds (GSem nD τ sig) Unit
/-- The two, and the counters of the tiles' transfers. -/
abbrev UU : Type := UH × (UP × Counters)

/-- The resources of the run. -/
abbrev MM (F : FTy → Type) : Type := MT nD τ sig (HIx 1) (Elt F) ℕ UU ℕ

/-- The handshakes' library is the left factor, -/
abbrev EH : Emb UH (MM F) := embL
/-- the pipelines' the left factor of the rest. -/
def EP : Emb UP (MM F) := (Emb.inl : Emb UP (UP × Counters)).trans embR

end Cert.Proof

end

end
-- ==== Proof.Trip.lean ====
/-
  One trip of the SparseCore kernel's inner loop: sixteen channels of sixteen events are loaded, each channel's events
  are binned, and for every pair of channels ones are added into the pair's cells of the histogram. Stated as a
  function of the histogram before the trip.
-/
module

public import proofs.«01_k».proof.Proof.Common

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The SparseCore and the tile of a grid point. -/
abbrev cV (L : grid1.Coords) : Fin τ.nSC := (L 0).castLE hcore1
abbrev jV (L : grid1.Coords) : Fin τ.nSub := (L 1).castLE hsub1

/-- The tile's histogram buffer, its chunk buffer and its buffer of the channels' ranges. -/
local notation "sH" => (Memref.whole Cert.KernelIdeal.cc1_scratch2 : Memref Cert.KernelIdeal.sig Kind.scVector Space.vmem Cert.KernelIdeal.S48000 EltTy.f32)
local notation "sB" => (Memref.whole Cert.KernelIdeal.cc1_scratch0 : Memref Cert.KernelIdeal.sig Kind.scVector Space.vmem Cert.KernelIdeal.S16x4096 EltTy.f32)

/-- Every word of the index vector names a cell of the histogram. -/
def InH (v : IVec S16 32) : Prop := ∀ x, (v x).toNat < 48000

theorem InH.all {v : IVec S16 32} (h : InH v) : ∀ a x, ((![v] : Fin 1 → IVec S16 32) a x).toNat < S48000.size a := by
  intro a x
  obtain rfl : a = 0 := Subsingleton.elim _ _
  exact h x

open Classical in
/-- Ones added into the cells an index vector names. -/
def scat (ones : Vec F S16 .f32) (h : Vec F S48000 .f32) (v : IVec S16 32) : Vec F S48000 .f32 :=
  if hv : InH v then storeIdx h ![v] ones (fun _ => 1#1) true hv.all else h

/-- One scatter already checked. -/
theorem wp_scat₀ (d : Dev nD) (L : grid1.Coords) {α : Type} {Q : α → sProp (MM F)} {ones : Vec F S16 .f32} {h : Vec F S48000 .f32} {v : IVec S16 32} (hv : InH v)
    {inb : ∀ a x, ((![v] : Fin 1 → IVec S16 32) a x).toNat < S48000.size a} {hs : ((sH).access (Rect.whole S48000)).Stores Finset.univ}
    {k : PUnit → Prog (TpuEff nD τ sig (Elt F) Λ₀ (V d (cV L) (jV L)).2) α} :
    ((V d (cV L) (jV L)).loc cc1_scratch2 ↦{fullShare} h : sProp (MM F))
      ⊢ iprop((((V d (cV L) (jV L)).loc cc1_scratch2 ↦{fullShare} scat ones h v) -∗ wp frame (wpE (defs₀ (F := F)) 𝒱₀ (V d (cV L) (jV L)) none) Set.univ (k ⟨⟩) Q)
        -∗ wp frame (wpE (defs₀ (F := F)) 𝒱₀ (V d (cV L) (jV L)) none) Set.univ
          (SparseCore.vectorStoreIdx sH ![v] ones (fun _ => 1#1) true inb hs >>= k) Q) := by
  have hw := SparseCore.wp_vectorStoreIdx (F := F) (defs := defs₀ (F := F)) 𝒱₀ (V d (cV L) (jV L)) none Set.univ (Q := Q) (base := sH) (idxs := ![v]) (v := ones)
    (mask := fun _ => 1#1) (add := true) (h := inb) (hs := hs) (k := k) (f := h)
  rw [Memref.set_access_whole] at hw
  erw [Memref.write_access_whole_univ, Memref.read_access_whole] at hw
  have e : scat ones h v = storeIdx h ![v] ones (fun _ => 1#1) true hv.all := dif_pos hv
  rw [e]
  exact hw

/-- One checked scatter: the check holds, and the histogram goes to `scat` of itself. -/
theorem wp_scat (d : Dev nD) (L : grid1.Coords) {α : Type} {Q : α → sProp (MM F)} {ones : Vec F S16 .f32} {h : Vec F S48000 .f32} {v : IVec S16 32}
    {p : Prop} {dec : Decidable p} (hv : InH v) (hp : p)
    {inb : PLift p → ∀ a x, ((![v] : Fin 1 → IVec S16 32) a x).toNat < S48000.size a}
    {hs : PLift p → ((sH).access (Rect.whole S48000)).Stores Finset.univ}
    {k : PLift p → PUnit → Prog (TpuEff nD τ sig (Elt F) Λ₀ (V d (cV L) (jV L)).2) α} :
    ((V d (cV L) (jV L)).loc cc1_scratch2 ↦{fullShare} h : sProp (MM F))
      ⊢ iprop((((V d (cV L) (jV L)).loc cc1_scratch2 ↦{fullShare} scat ones h v) -∗ wp frame (wpE (defs₀ (F := F)) 𝒱₀ (V d (cV L) (jV L)) none) Set.univ (k ⟨hp⟩ ⟨⟩) Q)
        -∗ wp frame (wpE (defs₀ (F := F)) 𝒱₀ (V d (cV L) (jV L)) none) Set.univ
          (.op (.assume p dec) fun x => SparseCore.vectorStoreIdx sH ![v] ones (fun _ => 1#1) true (inb x) (hs x) >>= k x) Q) := by
  rw [wp_assume_of _ _ _ _ hp]
  exact wp_scat₀ d L hv

/-! ## The indices of the pairs' cells -/

/-- The pairs of channels, in the kernel's order. -/
def prs : List (Fin 16 × Fin 16) := [
  (0, 1), (0, 2), (0, 3), (0, 4), (0, 5), (0, 6), (0, 7), (0, 8), (0, 9), (0, 10), (0, 11), (0, 12), (0, 13), (0, 14), (0, 15), (1, 2), (1, 3), (1, 4), (1, 5), (1, 6), (1, 7), (1, 8), (1, 9), (1, 10), (1, 11), (1, 12), (1, 13), (1, 14), (1, 15),
  (2, 3), (2, 4), (2, 5), (2, 6), (2, 7), (2, 8), (2, 9), (2, 10), (2, 11), (2, 12), (2, 13), (2, 14), (2, 15), (3, 4), (3, 5), (3, 6), (3, 7), (3, 8), (3, 9), (3, 10), (3, 11), (3, 12), (3, 13), (3, 14), (3, 15),
  (4, 5), (4, 6), (4, 7), (4, 8), (4, 9), (4, 10), (4, 11), (4, 12), (4, 13), (4, 14), (4, 15), (5, 6), (5, 7), (5, 8), (5, 9), (5, 10), (5, 11), (5, 12), (5, 13), (5, 14), (5, 15), (6, 7), (6, 8), (6, 9), (6, 10), (6, 11), (6, 12), (6, 13), (6, 14), (6, 15), (7, 8), (7, 9), (7, 10), (7, 11), (7, 12), (7, 13), (7, 14), (7, 15),
  (8, 9), (8, 10), (8, 11), (8, 12), (8, 13), (8, 14), (8, 15), (9, 10), (9, 11), (9, 12), (9, 13), (9, 14), (9, 15), (10, 11), (10, 12), (10, 13), (10, 14), (10, 15), (11, 12), (11, 13), (11, 14), (11, 15), (12, 13), (12, 14), (12, 15), (13, 14), (13, 15), (14, 15)]

/-- What the kernel adds to twenty times the bin of a pair's first channel. -/
def offW : Fin 16 → BitVec 32 :=
  ![4294966896#32, 5200#32, 10400#32, 15200#32, 19600#32, 23600#32, 27200#32, 30400#32, 33200#32, 35600#32, 37600#32, 39200#32, 40400#32,
    41200#32, 41600#32, 41600#32]
/-- What it adds to the bin of the second. -/
def offV : Fin 16 → BitVec 32 :=
  ![0#32, 400#32, 800#32, 1200#32, 1600#32, 2000#32, 2400#32, 2800#32, 3200#32, 3600#32, 4000#32, 4400#32, 4800#32, 5200#32, 5600#32, 6000#32]

/-- The cells of a pair for sixteen events whose bins are `b`: one word for each. -/
def idxW (b : Fin 16 → IVec S16 32) (p : Fin 16 × Fin 16) : IVec S16 32 :=
  addi (addi (muli (b p.1) (broadcast S16 20#32)) (broadcast S16 (offW p.1))) (addi (b p.2) (broadcast S16 (offV p.2)))

/-- The number of a pair in the kernel's order. -/
def pairN (p : Fin 16 × Fin 16) : ℕ := 15 * p.1.val + p.2.val - p.1.val * (p.1.val - 1) / 2 - p.1.val - 1

theorem off_pair : ∀ p ∈ prs, ((offW p.1).toNat + (offV p.2).toNat) % 2 ^ 32 = 400 * pairN p ∧ pairN p < 120 := by decide +kernel

/-- With bins below twenty, the word of a pair is the number of the pair's cell. -/
theorem idxW_toNat {b : Fin 16 → IVec S16 32} (hb : ∀ c x, (b c x).toNat < 20) {p : Fin 16 × Fin 16} (hp : p ∈ prs) (x : S16.Idx) :
    (idxW b p x).toNat = 400 * pairN p + 20 * (b p.1 x).toNat + (b p.2 x).toNat := by
  have h := off_pair p hp
  have h1 := hb p.1 x
  have h2 := hb p.2 x
  have e : idxW b p x = (b p.1 x * 20#32 + offW p.1) + (b p.2 x + offV p.2) := rfl
  rw [e]
  simp only [BitVec.toNat_add, BitVec.toNat_mul, BitVec.toNat_ofNat]
  omega

theorem idxW_inH {b : Fin 16 → IVec S16 32} (hb : ∀ c x, (b c x).toNat < 20) : ∀ v ∈ prs.map (idxW b), InH v := by
  intro v hv x
  obtain ⟨p, hp, rfl⟩ := List.mem_map.1 hv
  rw [idxW_toNat hb hp x]
  have h := off_pair p hp
  have h1 := hb p.1 x
  have h2 := hb p.2 x
  omega

/-- The bins of sixteen events of one channel, from the channel's least value and the width of its bins. -/
def binV (lo w : F .f32) (r : Vec F S1x16 .f32) : IVec S16 32 := k1_pay17 lo w r

/-- A word cut to the range of the bins. -/
theorem clip_lt (z : BitVec 32) : (IntOp.minsi 19#32 (IntOp.maxsi 0#32 z)).toNat < 20 := by
  have h19 : (19#32).toInt = 19 := rfl
  have h0 : (0#32).toInt = 0 := rfl
  have hm : 0 ≤ (IntOp.maxsi 0#32 z).toInt := by
    unfold IntOp.maxsi
    by_cases hz : z.slt 0#32 = true
    · rw [if_pos hz, h0]
    · rw [if_neg hz]
      simp only [BitVec.slt, h0, decide_eq_true_eq] at hz
      omega
  generalize IntOp.maxsi 0#32 z = y at hm
  unfold IntOp.minsi
  by_cases hy : (19#32).slt y = true
  · rw [if_pos hy]; decide
  · rw [if_neg hy]
    simp only [BitVec.slt, h19, decide_eq_true_eq] at hy
    rw [BitVec.toInt_eq_toNat_cond] at hm hy
    split at hm <;> simp_all <;> omega

theorem binV_lt (lo w : F .f32) (r : Vec F S1x16 .f32) (x : S16.Idx) : (binV lo w r x).toNat < 20 := clip_lt _

/-- The channels' least values, from the first row of their ranges, -/
def loC (v5 : Vec F S1x16 .f32) : Fin 16 → F .f32 :=
  ![k1_pay74 v5, k1_pay75 v5, k1_pay76 v5, k1_pay77 v5, k1_pay78 v5, k1_pay79 v5, k1_pay80 v5, k1_pay81 v5, k1_pay82 v5, k1_pay83 v5, k1_pay84 v5, k1_pay85 v5, k1_pay86 v5, k1_pay87 v5, k1_pay88 v5, k1_pay89 v5]
/-- and the widths of their bins, from both rows. -/
def wdC (v5 v7 : Vec F S1x16 .f32) : Fin 16 → F .f32 :=
  ![k1_pay1 (k1_pay90 v5 v7), k1_pay2 (k1_pay73 v5 v7), k1_pay3 (k1_pay73 v5 v7), k1_pay4 (k1_pay73 v5 v7), k1_pay5 (k1_pay73 v5 v7), k1_pay6 (k1_pay73 v5 v7), k1_pay7 (k1_pay73 v5 v7), k1_pay8 (k1_pay73 v5 v7), k1_pay9 (k1_pay73 v5 v7), k1_pay10 (k1_pay73 v5 v7), k1_pay11 (k1_pay73 v5 v7), k1_pay12 (k1_pay73 v5 v7), k1_pay13 (k1_pay73 v5 v7), k1_pay14 (k1_pay73 v5 v7), k1_pay15 (k1_pay73 v5 v7), k1_pay16 (k1_pay73 v5 v7)]
/-- Sixteen events of a channel, read from the chunk at an offset, -/
def ld16 (g : Vec F S16x4096 .f32) (off : Fin 2 → ℕ) (h : ∀ a, off a + S1x16.size a ≤ S16x4096.size a) : Vec F S1x16 .f32 :=
  (Memref.whole Cert.KernelIdeal.cc1_scratch0 : Memref Cert.KernelIdeal.sig Kind.scVector Space.vmem S16x4096 EltTy.f32).view.readAt (Elt F) (Rect.unit (s := S16x4096) off S1x16.size h).toLoadRect g
/-- each channel's, in trip `t`. -/
def rowC (g : Vec F S16x4096 .f32) (t : Fin k1_t2_loop.trips) : Fin 16 → Vec F S1x16 .f32 :=
  ![ld16 g (k1_off2 t) (k1_off2_inb t), ld16 g (k1_off3 t) (k1_off3_inb t), ld16 g (k1_off4 t) (k1_off4_inb t), ld16 g (k1_off5 t) (k1_off5_inb t), ld16 g (k1_off6 t) (k1_off6_inb t), ld16 g (k1_off7 t) (k1_off7_inb t), ld16 g (k1_off8 t) (k1_off8_inb t), ld16 g (k1_off9 t) (k1_off9_inb t), ld16 g (k1_off10 t) (k1_off10_inb t), ld16 g (k1_off11 t) (k1_off11_inb t), ld16 g (k1_off12 t) (k1_off12_inb t), ld16 g (k1_off13 t) (k1_off13_inb t), ld16 g (k1_off14 t) (k1_off14_inb t), ld16 g (k1_off15 t) (k1_off15_inb t), ld16 g (k1_off16 t) (k1_off16_inb t), ld16 g (k1_off17 t) (k1_off17_inb t)]
/-- The bins of the events of trip `t`. -/
def binC (v5 v7 : Vec F S1x16 .f32) (g : Vec F S16x4096 .f32) (t : Fin k1_t2_loop.trips) (c : Fin 16) : IVec S16 32 :=
  binV (loC v5 c) (wdC v5 v7 c) (rowC g t c)

theorem pts_sB (d : Dev nD) (L : grid1.Coords) (g : Vec F S16x4096 .f32) :
    ((sB).view.loc (V d (cV L) (jV L)) ↦{fullShare} g : sProp (MM F)) = ((V d (cV L) (jV L)).loc cc1_scratch0 ↦{fullShare} g) := rfl

/-- The histogram after trip `t`. -/
def tripH (ones : Vec F S16 .f32) (v5 v7 : Vec F S1x16 .f32) (g : Vec F S16x4096 .f32) (t : Fin k1_t2_loop.trips) (h : Vec F S48000 .f32) : Vec F S48000 .f32 :=
  (prs.map (idxW (binC v5 v7 g t))).foldl (scat ones) h

section Parts

variable {d : Dev nD} {L : grid1.Coords} {arg2 : Memref sig .scVector .hbm S16x524288 .f32} {harg2 : arg2.IsWhole} {arg3 : Memref sig .scVector .hbm S2x16 .f32} {harg3 : arg3.IsWhole}
    {arg4 : Memref sig .scVector .hbm S48000 .f32} {harg4 : arg4.IsWhole} {arg5 : Memref sig .scVector .hbm S32x48000 .f32} {harg5 : arg5.IsWhole}
    {arg7 : Memref sig .scVector .vmem S2x16 .f32} {harg7 : arg7.IsWhole} {r0 r1 r2 r3 : DmaSems sig S_} {h : Vec F S48000 .f32}

/-- The scatters of part 8 of a trip. -/
theorem wp_part8 {v3 : Vec F S16 .f32} {v234 v247 v260 v273 v286 v290 v294 v354 v356 v358 v360 v362 v364 v366 v368 v370 v372 v373 : IVec S16 32}
    {l : List (IVec S16 32)} (e : l = [addi v290 v354, addi v290 v356, addi v290 v358, addi v290 v360, addi v290 v362,
      addi v290 v364, addi v290 v366, addi v290 v368, addi v290 v370, addi v290 v372,
      addi v290 (k1_pay66 v234 v373), addi v290 (k1_pay67 v247), addi v290 (k1_pay68 v260), addi v290 (k1_pay69 v273), addi v290 (k1_pay70 v286)])
    (hb : ∀ v ∈ l, InH v) (hl : InH (addi v294 v356))
    {Q : _ → sProp (MM F)} :
    iprop(((V d (cV L) (jV L)).loc cc1_scratch2 ↦{fullShare} h : sProp (MM F)) ∗ (((V d (cV L) (jV L)).loc cc1_scratch2 ↦{fullShare} l.foldl (scat v3) h) -∗
        Q ⟨k1_pay66 v234 v373, k1_pay67 v247, k1_pay68 v260, k1_pay69 v273, k1_pay70 v286, addi v294 v356, (show k1_chk16 _ from hl.all)⟩))
      ⊢ wp frame (wpE (defs₀ (F := F)) 𝒱₀ (V d (cV L) (jV L)) none) Set.univ
          (k1_part8 L arg2 harg2 arg3 harg3 arg4 harg4 arg5 harg5 sB (Memref.isWhole_whole _) arg7 harg7 sH (Memref.isWhole_whole _) r0 r1 r2 r3 v3 v234 v247 v260 v273 v286 v290 v294 v354 v356 v358 v360 v362 v364 v366 v368 v370 v372 v373) Q := by
  subst e
  rw [k1_part8_eq_skeleton]; unfold k1_part8_skel
  simp only [Prog.lift, Prog.bind_op, Prog.bind_ret, Prog.pure_eq_ret]
  iintro ⟨HH, Hk⟩
  iterate 15
    obtain ⟨h1, hb⟩ := List.forall_mem_cons.1 hb
    iapply (wp_scat d L h1 h1.all) $$ HH; iintro HH
  rw [wp_assume_of (P := k1_chk16 _) _ _ _ _ hl.all, wp_ret]
  imodintro
  iapply Hk
  iexact HH

/-- The scatters of part 9 of a trip. -/
theorem wp_part9 {v3 : Vec F S16 .f32} {v294 v298 v358 v360 v362 v364 v366 v368 v370 v372 v374 v376 v378 v380 v382 v398 : IVec S16 32} {hw : k1_chk16 v398}
    {l : List (IVec S16 32)} (e : l = [v398, addi v294 v358, addi v294 v360, addi v294 v362, addi v294 v364,
      addi v294 v366, addi v294 v368, addi v294 v370, addi v294 v372, addi v294 v374,
      addi v294 v376, addi v294 v378, addi v294 v380, addi v294 v382, addi v298 v358,
      addi v298 v360, addi v298 v362, addi v298 v364, addi v298 v366, addi v298 v368])
    (hb : ∀ v ∈ l, InH v) (hl : InH (addi v298 v370))
    {Q : _ → sProp (MM F)} :
    iprop(((V d (cV L) (jV L)).loc cc1_scratch2 ↦{fullShare} h : sProp (MM F)) ∗ (((V d (cV L) (jV L)).loc cc1_scratch2 ↦{fullShare} l.foldl (scat v3) h) -∗
        Q ⟨addi v298 v370, (show k1_chk36 _ from hl.all)⟩))
      ⊢ wp frame (wpE (defs₀ (F := F)) 𝒱₀ (V d (cV L) (jV L)) none) Set.univ
          (k1_part9 L arg2 harg2 arg3 harg3 arg4 harg4 arg5 harg5 sB (Memref.isWhole_whole _) arg7 harg7 sH (Memref.isWhole_whole _) r0 r1 r2 r3 v3 v294 v298 v358 v360 v362 v364 v366 v368 v370 v372 v374 v376 v378 v380 v382 v398 hw) Q := by
  subst e
  rw [k1_part9_eq_skeleton]; unfold k1_part9_skel
  simp only [Prog.lift, Prog.bind_op, Prog.bind_ret, Prog.pure_eq_ret]
  iintro ⟨HH, Hk⟩
  obtain ⟨h1, hb⟩ := List.forall_mem_cons.1 hb
  iapply (wp_scat₀ d L h1) $$ HH; iintro HH
  iterate 19
    obtain ⟨h1, hb⟩ := List.forall_mem_cons.1 hb
    iapply (wp_scat d L h1 h1.all) $$ HH; iintro HH
  rw [wp_assume_of (P := k1_chk36 _) _ _ _ _ hl.all, wp_ret]
  imodintro
  iapply Hk
  iexact HH

/-- The scatters of part 10 of a trip. -/
theorem wp_part10 {v3 : Vec F S16 .f32} {v298 v302 v306 v360 v362 v364 v366 v368 v370 v372 v374 v376 v378 v380 v382 v418 : IVec S16 32} {hw : k1_chk36 v418}
    {l : List (IVec S16 32)} (e : l = [v418, addi v298 v372, addi v298 v374, addi v298 v376, addi v298 v378,
      addi v298 v380, addi v298 v382, addi v302 v360, addi v302 v362, addi v302 v364,
      addi v302 v366, addi v302 v368, addi v302 v370, addi v302 v372, addi v302 v374,
      addi v302 v376, addi v302 v378, addi v302 v380, addi v302 v382, addi v306 v362])
    (hb : ∀ v ∈ l, InH v) (hl : InH (addi v306 v364))
    {Q : _ → sProp (MM F)} :
    iprop(((V d (cV L) (jV L)).loc cc1_scratch2 ↦{fullShare} h : sProp (MM F)) ∗ (((V d (cV L) (jV L)).loc cc1_scratch2 ↦{fullShare} l.foldl (scat v3) h) -∗
        Q ⟨addi v306 v364, (show k1_chk56 _ from hl.all)⟩))
      ⊢ wp frame (wpE (defs₀ (F := F)) 𝒱₀ (V d (cV L) (jV L)) none) Set.univ
          (k1_part10 L arg2 harg2 arg3 harg3 arg4 harg4 arg5 harg5 sB (Memref.isWhole_whole _) arg7 harg7 sH (Memref.isWhole_whole _) r0 r1 r2 r3 v3 v298 v302 v306 v360 v362 v364 v366 v368 v370 v372 v374 v376 v378 v380 v382 v418 hw) Q := by
  subst e
  rw [k1_part10_eq_skeleton]; unfold k1_part10_skel
  simp only [Prog.lift, Prog.bind_op, Prog.bind_ret, Prog.pure_eq_ret]
  iintro ⟨HH, Hk⟩
  obtain ⟨h1, hb⟩ := List.forall_mem_cons.1 hb
  iapply (wp_scat₀ d L h1) $$ HH; iintro HH
  iterate 19
    obtain ⟨h1, hb⟩ := List.forall_mem_cons.1 hb
    iapply (wp_scat d L h1 h1.all) $$ HH; iintro HH
  rw [wp_assume_of (P := k1_chk56 _) _ _ _ _ hl.all, wp_ret]
  imodintro
  iapply Hk
  iexact HH

/-- The scatters of part 11 of a trip. -/
theorem wp_part11 {v3 : Vec F S16 .f32} {v306 v310 v314 v364 v366 v368 v370 v372 v374 v376 v378 v380 v382 v438 : IVec S16 32} {hw : k1_chk56 v438}
    {l : List (IVec S16 32)} (e : l = [v438, addi v306 v366, addi v306 v368, addi v306 v370, addi v306 v372,
      addi v306 v374, addi v306 v376, addi v306 v378, addi v306 v380, addi v306 v382,
      addi v310 v364, addi v310 v366, addi v310 v368, addi v310 v370, addi v310 v372,
      addi v310 v374, addi v310 v376, addi v310 v378, addi v310 v380, addi v310 v382])
    (hb : ∀ v ∈ l, InH v) (hl : InH (addi v314 v366))
    {Q : _ → sProp (MM F)} :
    iprop(((V d (cV L) (jV L)).loc cc1_scratch2 ↦{fullShare} h : sProp (MM F)) ∗ (((V d (cV L) (jV L)).loc cc1_scratch2 ↦{fullShare} l.foldl (scat v3) h) -∗
        Q ⟨addi v314 v366, (show k1_chk76 _ from hl.all)⟩))
      ⊢ wp frame (wpE (defs₀ (F := F)) 𝒱₀ (V d (cV L) (jV L)) none) Set.univ
          (k1_part11 L arg2 harg2 arg3 harg3 arg4 harg4 arg5 harg5 sB (Memref.isWhole_whole _) arg7 harg7 sH (Memref.isWhole_whole _) r0 r1 r2 r3 v3 v306 v310 v314 v364 v366 v368 v370 v372 v374 v376 v378 v380 v382 v438 hw) Q := by
  subst e
  rw [k1_part11_eq_skeleton]; unfold k1_part11_skel
  simp only [Prog.lift, Prog.bind_op, Prog.bind_ret, Prog.pure_eq_ret]
  iintro ⟨HH, Hk⟩
  obtain ⟨h1, hb⟩ := List.forall_mem_cons.1 hb
  iapply (wp_scat₀ d L h1) $$ HH; iintro HH
  iterate 19
    obtain ⟨h1, hb⟩ := List.forall_mem_cons.1 hb
    iapply (wp_scat d L h1 h1.all) $$ HH; iintro HH
  rw [wp_assume_of (P := k1_chk76 _) _ _ _ _ hl.all, wp_ret]
  imodintro
  iapply Hk
  iexact HH

/-- The scatters of part 12 of a trip. -/
theorem wp_part12 {v3 : Vec F S16 .f32} {v314 v318 v322 v368 v370 v372 v374 v376 v378 v380 v382 v458 : IVec S16 32} {hw : k1_chk76 v458}
    {l : List (IVec S16 32)} (e : l = [v458, addi v314 v368, addi v314 v370, addi v314 v372, addi v314 v374,
      addi v314 v376, addi v314 v378, addi v314 v380, addi v314 v382, addi v318 v368,
      addi v318 v370, addi v318 v372, addi v318 v374, addi v318 v376, addi v318 v378,
      addi v318 v380, addi v318 v382, addi v322 v370, addi v322 v372, addi v322 v374])
    (hb : ∀ v ∈ l, InH v) (hl : InH (addi v322 v376))
    {Q : _ → sProp (MM F)} :
    iprop(((V d (cV L) (jV L)).loc cc1_scratch2 ↦{fullShare} h : sProp (MM F)) ∗ (((V d (cV L) (jV L)).loc cc1_scratch2 ↦{fullShare} l.foldl (scat v3) h) -∗
        Q ⟨addi v322 v376, (show k1_chk96 _ from hl.all)⟩))
      ⊢ wp frame (wpE (defs₀ (F := F)) 𝒱₀ (V d (cV L) (jV L)) none) Set.univ
          (k1_part12 L arg2 harg2 arg3 harg3 arg4 harg4 arg5 harg5 sB (Memref.isWhole_whole _) arg7 harg7 sH (Memref.isWhole_whole _) r0 r1 r2 r3 v3 v314 v318 v322 v368 v370 v372 v374 v376 v378 v380 v382 v458 hw) Q := by
  subst e
  rw [k1_part12_eq_skeleton]; unfold k1_part12_skel
  simp only [Prog.lift, Prog.bind_op, Prog.bind_ret, Prog.pure_eq_ret]
  iintro ⟨HH, Hk⟩
  obtain ⟨h1, hb⟩ := List.forall_mem_cons.1 hb
  iapply (wp_scat₀ d L h1) $$ HH; iintro HH
  iterate 19
    obtain ⟨h1, hb⟩ := List.forall_mem_cons.1 hb
    iapply (wp_scat d L h1 h1.all) $$ HH; iintro HH
  rw [wp_assume_of (P := k1_chk96 _) _ _ _ _ hl.all, wp_ret]
  imodintro
  iapply Hk
  iexact HH

/-- The scatters of part 13 of a trip. -/
theorem wp_part13 {v3 : Vec F S16 .f32} {v322 v326 v330 v334 v338 v372 v374 v376 v378 v380 v382 v478 : IVec S16 32} {hw : k1_chk96 v478}
    {l : List (IVec S16 32)} (e : l = [v478, addi v322 v378, addi v322 v380, addi v322 v382, addi v326 v372,
      addi v326 v374, addi v326 v376, addi v326 v378, addi v326 v380, addi v326 v382,
      addi v330 v374, addi v330 v376, addi v330 v378, addi v330 v380, addi v330 v382,
      addi v334 v376, addi v334 v378, addi v334 v380, addi v334 v382, addi v338 v378])
    (hb : ∀ v ∈ l, InH v) (hl : InH (addi v338 v380))
    {Q : _ → sProp (MM F)} :
    iprop(((V d (cV L) (jV L)).loc cc1_scratch2 ↦{fullShare} h : sProp (MM F)) ∗ (((V d (cV L) (jV L)).loc cc1_scratch2 ↦{fullShare} l.foldl (scat v3) h) -∗
        Q ⟨addi v338 v380, (show k1_chk116 _ from hl.all)⟩))
      ⊢ wp frame (wpE (defs₀ (F := F)) 𝒱₀ (V d (cV L) (jV L)) none) Set.univ
          (k1_part13 L arg2 harg2 arg3 harg3 arg4 harg4 arg5 harg5 sB (Memref.isWhole_whole _) arg7 harg7 sH (Memref.isWhole_whole _) r0 r1 r2 r3 v3 v322 v326 v330 v334 v338 v372 v374 v376 v378 v380 v382 v478 hw) Q := by
  subst e
  rw [k1_part13_eq_skeleton]; unfold k1_part13_skel
  simp only [Prog.lift, Prog.bind_op, Prog.bind_ret, Prog.pure_eq_ret]
  iintro ⟨HH, Hk⟩
  obtain ⟨h1, hb⟩ := List.forall_mem_cons.1 hb
  iapply (wp_scat₀ d L h1) $$ HH; iintro HH
  iterate 19
    obtain ⟨h1, hb⟩ := List.forall_mem_cons.1 hb
    iapply (wp_scat d L h1 h1.all) $$ HH; iintro HH
  rw [wp_assume_of (P := k1_chk116 _) _ _ _ _ hl.all, wp_ret]
  imodintro
  iapply Hk
  iexact HH

end Parts

set_option maxHeartbeats 8000000 in
set_option maxRecDepth 65536 in
/-- A trip takes the histogram to `tripH` of itself, the chunk unchanged. -/
theorem wp_trip (d : Dev nD) (L : grid1.Coords) (arg2 : Memref sig .scVector .hbm S16x524288 .f32) (harg2 : arg2.IsWhole) (arg3 : Memref sig .scVector .hbm S2x16 .f32) (harg3 : arg3.IsWhole)
    (arg4 : Memref sig .scVector .hbm S48000 .f32) (harg4 : arg4.IsWhole) (arg5 : Memref sig .scVector .hbm S32x48000 .f32) (harg5 : arg5.IsWhole)
    (arg7 : Memref sig .scVector .vmem S2x16 .f32) (harg7 : arg7.IsWhole) (r0 r1 r2 r3 : DmaSems sig S_)
    (ones : Vec F S16 .f32) (v5 v7 : Vec F S1x16 .f32) (g : Vec F S16x4096 .f32) (h : Vec F S48000 .f32) (t : Fin k1_t2_loop.trips) (u : Unit) :
    iprop(((V d (cV L) (jV L)).loc cc1_scratch0 ↦{fullShare} g : sProp (MM F)) ∗ ((V d (cV L) (jV L)).loc cc1_scratch2 ↦{fullShare} h))
      ⊢ wp frame (wpE (defs₀ (F := F)) 𝒱₀ (V d (cV L) (jV L)) none) Set.univ
          (k1_t2_body L arg2 harg2 arg3 harg3 arg4 harg4 arg5 harg5 sB (Memref.isWhole_whole _) arg7 harg7 sH (Memref.isWhole_whole _) r0 r1 r2 r3
            ones (k1_pay73 v5 v7) (k1_pay74 v5) (k1_pay75 v5) (k1_pay76 v5) (k1_pay77 v5) (k1_pay78 v5) (k1_pay79 v5) (k1_pay80 v5) (k1_pay81 v5) (k1_pay82 v5) (k1_pay83 v5) (k1_pay84 v5) (k1_pay85 v5) (k1_pay86 v5) (k1_pay87 v5) (k1_pay88 v5) (k1_pay89 v5) (k1_pay90 v5 v7) t u)
          fun _ => iprop(((V d (cV L) (jV L)).loc cc1_scratch0 ↦{fullShare} g) ∗ ((V d (cV L) (jV L)).loc cc1_scratch2 ↦{fullShare} tripH ones v5 v7 g t h)) := by
  have hb := idxW_inH (b := binC v5 v7 g t) fun c x => binV_lt _ _ _ x
  have hn : ∀ a n, ∀ v ∈ ((prs.drop a).take n).map (idxW (binC v5 v7 g t)), InH v := fun a n v hv =>
    hb v (by
      obtain ⟨p, hp, rfl⟩ := List.mem_map.1 hv
      exact List.mem_map_of_mem (List.mem_of_mem_drop (List.mem_of_mem_take hp)))
  have hi : ∀ p ∈ prs, InH (idxW (binC v5 v7 g t) p) := fun p hp => hb _ (List.mem_map_of_mem hp)
  unfold k1_t2_body
  simp only [k1_part1_eq_skeleton, k1_part2_eq_skeleton, k1_part3_eq_skeleton, k1_part4_eq_skeleton, k1_part5_eq_skeleton, k1_part6_eq_skeleton, k1_part7_eq_skeleton]
  unfold k1_part1_skel k1_part2_skel k1_part3_skel k1_part4_skel k1_part5_skel k1_part6_skel k1_part7_skel
  simp only [Prog.lift, Prog.bind_op, Prog.bind_ret, Prog.pure_eq_ret]
  iintro ⟨HB, HH⟩
  ihave HB := (Entails.of_eq (pts_sB (F := F) d L g).symm) $$ HB
  iterate 16
    iapply (wp_load 𝒱₀ (V d (cV L) (jV L)) none Set.univ (m := sB) (S := Finset.univ) (Finset.subset_univ _)) $$ HB; iintro HB
  rw [wp_bind]
  iapply (wp_part8 (F := F) (l := ((prs.drop 0).take 15).map (idxW (binC v5 v7 g t))) ?e8 (hn 0 15) (hi (1, 2) (by decide)))
  case e8 => rfl
  isplitl [HH]; · iexact HH
  iintro HH
  rw [wp_bind]
  iapply (wp_part9 (F := F) (l := ((prs.drop 15).take 20).map (idxW (binC v5 v7 g t))) ?e9 (hn 15 20) (hi (2, 9) (by decide)))
  case e9 => rfl
  isplitl [HH]; · iexact HH
  iintro HH
  rw [wp_bind]
  iapply (wp_part10 (F := F) (l := ((prs.drop 35).take 20).map (idxW (binC v5 v7 g t))) ?e10 (hn 35 20) (hi (4, 6) (by decide)))
  case e10 => rfl
  isplitl [HH]; · iexact HH
  iintro HH
  rw [wp_bind]
  iapply (wp_part11 (F := F) (l := ((prs.drop 55).take 20).map (idxW (binC v5 v7 g t))) ?e11 (hn 55 20) (hi (6, 7) (by decide)))
  case e11 => rfl
  isplitl [HH]; · iexact HH
  iintro HH
  rw [wp_bind]
  iapply (wp_part12 (F := F) (l := ((prs.drop 75).take 20).map (idxW (binC v5 v7 g t))) ?e12 (hn 75 20) (hi (8, 12) (by decide)))
  case e12 => rfl
  isplitl [HH]; · iexact HH
  iintro HH
  rw [wp_bind]
  iapply (wp_part13 (F := F) (l := ((prs.drop 95).take 20).map (idxW (binC v5 v7 g t))) ?e13 (hn 95 20) (hi (12, 14) (by decide)))
  case e13 => rfl
  isplitl [HH]; · iexact HH
  iintro HH
  iapply (wp_scat₀ (v := idxW (binC v5 v7 g t) (12, 14)) d L (hi (12, 14) (by decide))) $$ HH; iintro HH
  iapply (wp_scat (v := idxW (binC v5 v7 g t) (12, 15)) d L (hi (12, 15) (by decide)) (hi (12, 15) (by decide)).all) $$ HH; iintro HH
  iapply (wp_scat (v := idxW (binC v5 v7 g t) (13, 14)) d L (hi (13, 14) (by decide)) (hi (13, 14) (by decide)).all) $$ HH; iintro HH
  iapply (wp_scat (v := idxW (binC v5 v7 g t) (13, 15)) d L (hi (13, 15) (by decide)) (hi (13, 15) (by decide)).all) $$ HH; iintro HH
  iapply (wp_scat (v := idxW (binC v5 v7 g t) (14, 15)) d L (hi (14, 15) (by decide)) (hi (14, 15) (by decide)).all) $$ HH; iintro HH
  rw [wp_ret]; imodintro
  isplitl [HB]; · iexact HB
  have hT : tripH ones v5 v7 g t h = scat ones (scat ones (scat ones (scat ones (scat ones
      ((((prs.drop 95).take 20).map (idxW (binC v5 v7 g t))).foldl (scat ones) ((((prs.drop 75).take 20).map (idxW (binC v5 v7 g t))).foldl (scat ones)
        ((((prs.drop 55).take 20).map (idxW (binC v5 v7 g t))).foldl (scat ones) ((((prs.drop 35).take 20).map (idxW (binC v5 v7 g t))).foldl (scat ones)
          ((((prs.drop 15).take 20).map (idxW (binC v5 v7 g t))).foldl (scat ones) ((((prs.drop 0).take 15).map (idxW (binC v5 v7 g t))).foldl (scat ones) h))))))
      (idxW (binC v5 v7 g t) (12, 14))) (idxW (binC v5 v7 g t) (12, 15))) (idxW (binC v5 v7 g t) (13, 14))) (idxW (binC v5 v7 g t) (13, 15))) (idxW (binC v5 v7 g t) (14, 15)) := by
    have hp : prs = (prs.drop 0).take 15 ++ ((prs.drop 15).take 20 ++ ((prs.drop 35).take 20 ++ ((prs.drop 55).take 20 ++ ((prs.drop 75).take 20
        ++ ((prs.drop 95).take 20 ++ [(12, 14), (12, 15), (13, 14), (13, 15), (14, 15)]))))) := rfl
    rw [tripH]
    conv_lhs => rw [hp]
    simp only [List.map_append, List.foldl_append, List.map_cons, List.map_nil, List.foldl_cons, List.foldl_nil]
  rw [hT]
  iexact HH

end Cert.Proof

end

end
-- ==== Proof.Tile.lean ====
/-
  The task of one tile: it copies in the table of the channels' ranges and a cleared histogram, then takes its columns a
  chunk at a time, running the 256 trips over each, and copies its histogram out to its row of the partial results.
-/
module

public import proofs.«01_k».proof.Proof.Trip
public import Idealize.ShloMosaic.Lib.ValueIdxCore

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "xV" => (Memref.whole Cert.KernelIdeal.main_v1_0_scv : Memref Cert.KernelIdeal.sig Kind.scVector Space.hbm Cert.KernelIdeal.S16x524288 EltTy.f32)
local notation "mV" => (Memref.whole Cert.KernelIdeal.main_v1_1_scv : Memref Cert.KernelIdeal.sig Kind.scVector Space.hbm Cert.KernelIdeal.S2x16 EltTy.f32)
local notation "zV" => (Memref.whole Cert.KernelIdeal.main_v2_scv : Memref Cert.KernelIdeal.sig Kind.scVector Space.hbm Cert.KernelIdeal.S48000 EltTy.f32)
local notation "pV" => (Memref.whole Cert.KernelIdeal.main_v3_scv : Memref Cert.KernelIdeal.sig Kind.scVector Space.hbm Cert.KernelIdeal.S32x48000 EltTy.f32)
local notation "sB" => (Memref.whole Cert.KernelIdeal.cc1_scratch0 : Memref Cert.KernelIdeal.sig Kind.scVector Space.vmem Cert.KernelIdeal.S16x4096 EltTy.f32)
local notation "sM" => (Memref.whole Cert.KernelIdeal.cc1_scratch1 : Memref Cert.KernelIdeal.sig Kind.scVector Space.vmem Cert.KernelIdeal.S2x16 EltTy.f32)
local notation "sH" => (Memref.whole Cert.KernelIdeal.cc1_scratch2 : Memref Cert.KernelIdeal.sig Kind.scVector Space.vmem Cert.KernelIdeal.S48000 EltTy.f32)

/-! ## The rows of the partial results -/

/-- The columns (transposed), the ranges, the cleared histogram and the partial results, as locations of device `d`. -/
abbrev xtLoc (d : Dev nD) : Loc nD τ sig := (SparseCore.T d).loc main_v1_0
abbrev mmLoc (d : Dev nD) : Loc nD τ sig := (SparseCore.T d).loc main_v1_1
abbrev zzLoc (d : Dev nD) : Loc nD τ sig := (SparseCore.T d).loc main_v2
abbrev ptLoc (d : Dev nD) : Loc nD τ sig := (SparseCore.T d).loc main_v3

theorem hdiv : 32 ∣ S32x48000.size 0 := ⟨1, rfl⟩
/-- Row `w` of the partial results. -/
abbrev row (w : Fin 32) : Rect S32x48000 := Rect.part (s := S32x48000) (a₀ := 0) hdiv w
abbrev rowSet (w : Fin 32) : Finset S32x48000.Idx := ((pV).view.slice (row w)).set

/-- The number of tile `i` of SparseCore `c`. -/
def wid (c : Fin 2) (i : Fin 16) : Fin 32 := ⟨2 * i.val + c.val, by omega⟩
/-- The number of the tile at `L`. -/
abbrev widL (L : grid1.Coords) : Fin 32 := wid ⟨(L 0).val, (L 0).isLt⟩ ⟨(L 1).val, (L 1).isLt⟩

abbrev rowK (L : grid1.Coords) : Rect S32x48000 := Rect.unit (s := S32x48000) (k1_off18 L) S1x48000.size (k1_off18_inb L)
/-- Its row as the body slices it. -/
abbrev pRowK (L : grid1.Coords) : Memref sig .scVector .hbm S48000 .f32 := ((pV).slice (rowK L) (fun _ => rfl)).squeeze S48000 squeezes_S1x48000_S48000

theorem rowK_eq (L : grid1.Coords) : rowK L = row (widL L) := by
  have h0 : (L 0).val < 2 := (L 0).isLt
  have h1 : (L 1).val < 16 := (L 1).isLt
  unfold rowK row Rect.part Rect.block
  congr 1 <;> funext a
  · rw [k1_off18_eq]
    match a with
    | 0 => simp [Shape.partIx, Shape.partSize, wid]; try omega
    | 1 => simp [Shape.partIx, Shape.partSize]
  · match a with
    | 0 => simp [Shape.partSize]
    | 1 => simp [Shape.partSize]

theorem set_pRowK (L : grid1.Coords) : (pRowK L).view.set = rowSet (widL L) := by
  show (((pV).view.slice (rowK L)).reshape S48000 squeezes_S1x48000_S48000.numel_eq).set = ((pV).view.slice (row (widL L))).set
  rw [View.set_reshape]
  exact rowK_eq L ▸ rfl

theorem pts_pRowK (d : Dev nD) (L : grid1.Coords) (f : Buf (Elt F) (ptLoc d)) :
    ((pRowK L).view.loc (V d (cV L) (jV L)) ↦[(pRowK L).view.set]{fullShare} f : sProp (MM F)) = ptLoc d ↦[rowSet (widL L)]{fullShare} f := by
  rw [set_pRowK]

/-! ## What a tile computes -/

/-- `f` applied for each of the first `k` indices in turn, from `x`. -/
def upTo {α : Type} {n : ℕ} (f : Fin n → α → α) (x : α) : ℕ → α
  | 0 => x
  | k + 1 => if h : k < n then f ⟨k, h⟩ (upTo f x k) else upTo f x k

theorem upTo_zero {α : Type} {n : ℕ} (f : Fin n → α → α) (x : α) : upTo f x 0 = x := rfl
theorem upTo_succ {α : Type} {n : ℕ} (f : Fin n → α → α) (x : α) (k : Fin n) : upTo f x (k.val + 1) = f k (upTo f x k.val) := dif_pos k.isLt

attribute [irreducible] upTo

variable [FloatOps F]

/-- Chunk `c` of a tile's columns. -/
def chunk (X : Vec F S16x524288 .f32) (L : grid1.Coords) (c : Fin k1_t1_loop.trips) : Vec F S16x4096 .f32 :=
  ((xV).slice (Rect.unit (s := S16x524288) (k1_off1 L c) S16x4096.size (k1_off1_inb L c)) (fun _ => rfl)).view.read (Elt F) X
/-- The least values and the greatest of the channels. -/
def loR (M : Vec F S2x16 .f32) : Vec F S1x16 .f32 := (sM).view.readAt (Elt F) (Rect.unit (s := S2x16) ![0, 0] S1x16.size inb_S2x16_S1x16_0_0).toLoadRect M
def hiR (M : Vec F S2x16 .f32) : Vec F S1x16 .f32 := (sM).view.readAt (Elt F) (Rect.unit (s := S2x16) ![1, 0] S1x16.size inb_S2x16_S1x16_1_0).toLoadRect M
/-- The histogram after a chunk. -/
def chunkH (v5 v7 : Vec F S1x16 .f32) (g : Vec F S16x4096 .f32) (h : Vec F S48000 .f32) : ℕ → Vec F S48000 .f32 :=
  upTo (fun t h => tripH (k1_pay71 (F := F)) v5 v7 g t h) h
/-- The histogram after the first chunks. -/
def tileH (X : Vec F S16x524288 .f32) (M : Vec F S2x16 .f32) (Z : Vec F S48000 .f32) (L : grid1.Coords) : ℕ → Vec F S48000 .f32 :=
  upTo (fun c h => chunkH (loR M) (hiR M) (chunk X L c) h k1_t2_loop.trips) Z

section Tile

variable (d : Dev nD) (L : grid1.Coords)

/-! ## The task's own buffers and semaphores -/

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)
abbrev cCcell (d : Dev nD) (c : Fin τ.nSC) (i : Fin τ.nSub) : GSem nD τ sig := (V d c i, .dma cc1_scoped2.sem)
abbrev cDcell (d : Dev nD) (c : Fin τ.nSC) (i : Fin τ.nSub) : GSem nD τ sig := (V d c i, .dma cc1_scoped3.sem)

omit [FloatOps F] in
theorem ownSems0_V :
    (ownSems0 (V d (cV L) (jV L)) : sProp (MM F))
      = iprop(semVal (cAcell d (cV L) (jV L)) 0 ∗ semVal (cBcell d (cV L) (jV L)) 0 ∗ semVal (cCcell d (cV L) (jV L)) 0 ∗ semVal (cDcell d (cV L) (jV L)) 0
          ∗ bigSep (((((ownCells (V d (cV L) (jV L))).erase (cAcell d (cV L) (jV L))).erase (cBcell d (cV L) (jV L))).erase (cCcell d (cV L) (jV L))).erase
              (cDcell d (cV L) (jV L))) fun g => semVal g 0) := by
  have mA : cAcell d (cV L) (jV L) ∈ ownCells (V d (cV L) (jV L)) := mem_ownCells.mpr ⟨rfl, by show (SemLoc.dma cc1_scoped0.sem : SemLoc sig).isScoped .scVector = true; decide⟩
  have mB : cBcell d (cV L) (jV L) ∈ ownCells (V d (cV L) (jV L)) := mem_ownCells.mpr ⟨rfl, by show (SemLoc.dma cc1_scoped1.sem : SemLoc sig).isScoped .scVector = true; decide⟩
  have mC : cCcell d (cV L) (jV L) ∈ ownCells (V d (cV L) (jV L)) := mem_ownCells.mpr ⟨rfl, by show (SemLoc.dma cc1_scoped2.sem : SemLoc sig).isScoped .scVector = true; decide⟩
  have mD : cDcell d (cV L) (jV L) ∈ ownCells (V d (cV L) (jV L)) := mem_ownCells.mpr ⟨rfl, by show (SemLoc.dma cc1_scoped3.sem : SemLoc sig).isScoped .scVector = true; decide⟩
  have ne : ∀ {a b : DmaSems sig S_}, a.sem ≠ b.sem → ((V d (cV L) (jV L), SemLoc.dma a.sem) : GSem nD τ sig) ≠ (V d (cV L) (jV L), .dma b.sem) :=
    fun h e => h (SemLoc.dma.inj (Prod.mk.inj e).2)
  unfold SparseCore.Cfg.ownSems0
  rw [SparseCore.bigSep_erase' mA,
    SparseCore.bigSep_erase' (Finset.mem_erase.mpr ⟨ne (a := cc1_scoped1) (b := cc1_scoped0) (by decide), mB⟩),
    SparseCore.bigSep_erase' (Finset.mem_erase.mpr ⟨ne (a := cc1_scoped2) (b := cc1_scoped1) (by decide), Finset.mem_erase.mpr ⟨ne (a := cc1_scoped2) (b := cc1_scoped0) (by decide), mC⟩⟩),
    SparseCore.bigSep_erase' (Finset.mem_erase.mpr ⟨ne (a := cc1_scoped3) (b := cc1_scoped2) (by decide), Finset.mem_erase.mpr ⟨ne (a := cc1_scoped3) (b := cc1_scoped1) (by decide),
      Finset.mem_erase.mpr ⟨ne (a := cc1_scoped3) (b := cc1_scoped0) (by decide), mD⟩⟩⟩)]

omit [FloatOps F] in
theorem ownBufs_V :
    (ownBufs (V d (cV L) (jV L)) : sProp (MM F))
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  have mem : ∀ {b : Ref sig .scVector}, ((Proc.scVector (cV L) (jV L)).devRef b).owner = .proc (.scVector (cV L) (jV L)) →
      (Proc.scVector (cV L) (jV L)).devRef b ∈ ownRefs (τ := τ) (.scVector (cV L) (jV L)) := fun h => SparseCore.Cfg.mem_ownRefs_of_owner h
  have ne : ∀ {a b : Ref sig .scVector}, a ≠ b → (Proc.scVector (cV L) (jV L)).devRef a ≠ (Proc.scVector (cV L) (jV L)).devRef b :=
    fun h e => h (Proc.devRef_injective _ e)
  unfold SparseCore.Cfg.ownBufs
  refine (SparseCore.bigSep_erase' (mem (b := cc1_scratch0) rfl)).trans ?_
  rw [SparseCore.bigSep_erase' (Finset.mem_erase.mpr ⟨ne (a := cc1_scratch1) (b := cc1_scratch0) (by decide), mem (b := cc1_scratch1) rfl⟩),
    SparseCore.bigSep_erase' (Finset.mem_erase.mpr ⟨ne (a := cc1_scratch2) (b := cc1_scratch1) (by decide),
      Finset.mem_erase.mpr ⟨ne (a := cc1_scratch2) (b := cc1_scratch0) (by decide), mem (b := cc1_scratch2) rfl⟩⟩)]

/-- A tile's whole histogram. -/
def histRow (X : Vec F S16x524288 .f32) (M : Vec F S2x16 .f32) (Z : Vec F S48000 .f32) (L : grid1.Coords) : Vec F S48000 .f32 := tileH X M Z L k1_t1_loop.trips

/-- The coordinates of tile `w`. -/
def coordsW (w : Fin 32) : grid1.Coords :=
  fun | 0 => ⟨w.val % 2, Nat.mod_lt _ (by decide)⟩ | 1 => ⟨w.val / 2, by show w.val / 2 < 16; omega⟩ | ⟨_ + 2, h⟩ => absurd h (Nat.not_lt.2 (Nat.le_add_left _ _))

omit [FloatOps F] in
theorem coordsW_widL (L : grid1.Coords) : coordsW (widL L) = L := by
  have h0 : (L 0).val < 2 := (L 0).isLt
  have h1 : (L 1).val < 16 := (L 1).isLt
  funext a
  match a with
  | 0 => exact Fin.ext (by show (2 * (L 1).val + (L 0).val) % 2 = (L 0).val; omega)
  | 1 => exact Fin.ext (by show (2 * (L 1).val + (L 0).val) / 2 = (L 1).val; omega)

/-- The partial results: row `w` is tile `w`'s histogram. -/
def histBuf (X : Vec F S16x524288 .f32) (M : Vec F S2x16 .f32) (Z : Vec F S48000 .f32) : Vec F S32x48000 .f32 :=
  fun i => histRow X M Z (coordsW (i 0)) (ix1 (i 1))

variable (X : Vec F S16x524288 .f32) (M : Vec F S2x16 .f32) (Z : Vec F S48000 .f32) (q : PosShare TreeShare)

omit [FloatOps F] in
theorem emb_pRowK (j : S48000.Idx) : (pRowK L).view.emb j 0 = widL L ∧ (pRowK L).view.emb j 1 = j 0 := by
  have e : (Shape.reshapeEquiv squeezes_S1x48000_S48000.numel_eq j : S1x48000.Idx) = (ix2 (0 : Fin 1) (j 0 : Fin 48000) : S1x48000.Idx) := by
    refine Shape.reshapeEquiv_eq_of_rowMajor _ ?_
    refine (Shape.rowMajor_val_two _).trans (Eq.trans ?_ (Shape.rowMajor_val_one j).symm)
    show 0 * _ + (j 0).val = (j 0).val
    omega
  have h : (pRowK L).view.emb j = (rowK L).emb (Shape.reshapeEquiv squeezes_S1x48000_S48000.numel_eq j : S1x48000.Idx) := rfl
  rw [h, e]
  constructor
  · apply Fin.ext
    show k1_off18 L 0 + 1 * 0 = _
    rw [k1_off18_eq]; rfl
  · apply Fin.ext
    show k1_off18 L 1 + 1 * (j 0).val = (j 0).val
    rw [k1_off18_eq]; show 0 + 1 * (j 0).val = (j 0).val; omega

theorem hist_lands (f₀ : Buf (Elt F) (ptLoc d)) :
    (ptLoc d ↦[rowSet (widL L)]{fullShare} ((pRowK L).view.writes (Elt F) f₀ [⟨Rect.whole S48000, histRow X M Z L⟩] : Buf (Elt F) (ptLoc d)) : sProp (MM F))
      = ptLoc d ↦[rowSet (widL L)]{fullShare} (histBuf X M Z : Buf (Elt F) (ptLoc d)) := by
  refine pointsTo_congr fun i hi => ?_
  rw [← set_pRowK] at hi
  obtain ⟨j, -, rfl⟩ := Finset.mem_map.1 hi
  have h1 := View.read_writes_cons_emb (Val := Elt F) (v := (pRowK L).view) (f := f₀) (Rect.whole S48000) (histRow X M Z L) [] j
  rw [show (Rect.whole S48000).emb j = j from Rect.emb_whole_apply S48000 j] at h1
  have h2 : ∀ g : Buf (Elt F) (ptLoc d), View.read (Elt F) (pRowK L).view g j = g ((pRowK L).view.emb j) := fun g => rfl
  refine (h2 _).symm.trans (h1.trans ?_)
  show _ = histRow X M Z (coordsW ((pRowK L).view.emb j 0)) (ix1 ((pRowK L).view.emb j 1))
  rw [(emb_pRowK L j).1, (emb_pRowK L j).2, coordsW_widL]
  exact congrArg _ (funext fun a => by fin_cases a; rfl)

/-- What the loop over the chunks holds: the columns, the chunk's buffer at anything, the histogram, the copy's semaphore
    back at zero, and what the tile owes. -/
def inv1 (O : CellTallies nD τ sig (HIx 1)) (W : Waits sig (HIx 1)) (h : Vec F S48000 .f32) : sProp (MM F) :=
  iprop(Transfers.MayWaits (V d (cV L) (jV L)) (default : HIx 1) O
    ∗ ((xV).view.loc (V d (cV L) (jV L)) ↦{q} X)
    ∗ (∃ g, (sB).view.loc (V d (cV L) (jV L)) ↦{fullShare} g)
    ∗ ((sH).view.loc (V d (cV L) (jV L)) ↦{fullShare} h)
    ∗ semVal (cCcell d (cV L) (jV L)) 0
    ∗ ∃ W', ⌜∀ p ∈ W', p ∈ W ∨ p.2 = none ∨ p.2 = some (0 : Fin 1)⌝ ∗ owes (V d (cV L) (jV L)) O W')

set_option maxRecDepth 65536 in
theorem wp_chunk (O : CellTallies nD τ sig (HIx 1)) (W : Waits sig (HIx 1)) (v5 v7 : Vec F S1x16 .f32) (h : Vec F S48000 .f32) (c : Fin k1_t1_loop.trips) (u : Unit)
    (arg3 : Memref sig .scVector .hbm S2x16 .f32) (harg3 : arg3.IsWhole)
    (arg4 : Memref sig .scVector .hbm S48000 .f32) (harg4 : arg4.IsWhole) (arg5 : Memref sig .scVector .hbm S32x48000 .f32) (harg5 : arg5.IsWhole)
    (arg7 : Memref sig .scVector .vmem S2x16 .f32) (harg7 : arg7.IsWhole) (r0 r1 r3 : DmaSems sig S_) :
    inv1 d L X q O W h
      ⊢ wp frame (wpE (defs₀ (F := F)) 𝒱₀ (V d (cV L) (jV L)) none) Set.univ
          (k1_t1_body L xV (Memref.isWhole_whole _) arg3 harg3 arg4 harg4 arg5 harg5 sB (Memref.isWhole_whole _) arg7 harg7 sH (Memref.isWhole_whole _) r0 r1 cc1_scoped2 r3
            (k1_pay71 (F := F)) (k1_pay73 v5 v7) (k1_pay74 v5) (k1_pay75 v5) (k1_pay76 v5) (k1_pay77 v5) (k1_pay78 v5) (k1_pay79 v5) (k1_pay80 v5) (k1_pay81 v5) (k1_pay82 v5) (k1_pay83 v5)
            (k1_pay84 v5) (k1_pay85 v5) (k1_pay86 v5) (k1_pay87 v5) (k1_pay88 v5) (k1_pay89 v5) (k1_pay90 v5 v7) c u)
          fun _ => inv1 d L X q O W (chunkH v5 v7 (chunk X L c) h k1_t2_loop.trips) := by
  unfold k1_t1_body inv1
  iintro ⟨Hmw, Hx, ⟨%g, HB⟩, HH, Hs, %W', %hW', HO⟩
  sl_exec (disch := exact View.amount_pos _ _ (show 0 < _ by decide))
  ihave HB := (Entails.of_eq (show ((sB).view.loc (V d (cV L) (jV L)) ↦{fullShare} _ : sProp (MM F)) = ((V d (cV L) (jV L)).loc cc1_scratch0 ↦{fullShare} chunk X L c) from
    congrArg _ ((View.write_whole_univ _ _ _).trans rfl))) $$ HB
  sl_for (fun k _ => iprop(((V d (cV L) (jV L)).loc cc1_scratch0 ↦{fullShare} chunk X L c) ∗ ((V d (cV L) (jV L)).loc cc1_scratch2 ↦{fullShare} chunkH v5 v7 (chunk X L c) h k))) $$ [HB HH]
  case region =>
    intro k u
    unfold chunkH
    rw [upTo_succ]
    exact wp_trip d L xV (Memref.isWhole_whole _) arg3 harg3 arg4 harg4 arg5 harg5 arg7 harg7 r0 r1 cc1_scoped2 r3 (k1_pay71 (F := F)) v5 v7 (chunk X L c) _ k u
  · rw [show chunkH v5 v7 (chunk X L c) h 0 = h from upTo_zero _ _]
    isplitl [HB]; · iexact HB
    iexact HH
  iintro %_ ⟨HB, HH⟩
  sl_step
  isplitl [Hmw]; · iexact Hmw
  isplitl [Hx]; · iexact Hx
  isplitl [HB]; · iexists _; iexact HB
  isplitl [HH]; · iexact HH
  isplitl [Hs]; · iexact Hs
  iexists _; isplitr
  swap; · iexact HO
  ipureintro; intro p hp
  rcases Finset.mem_insert.mp hp with hp | hp
  · exact .inr (.inl (hp ▸ rfl))
  · exact hW' p hp

theorem tile_body (hF : (K (F := F)).Facts) (O : CellTallies nD τ sig (HIx 1)) (W : Waits sig (HIx 1)) (hO : ∀ g, O g none = 0)
    (f₀ : Buf (Elt F) (ptLoc d)) :
    (iprop(levAts (K (F := F)).L (K (F := F)).lev ∗ emp
        ∗ ((xtLoc d ↦{q} (X : Buf (Elt F) (xtLoc d))) ∗ (mmLoc d ↦{q} (M : Buf (Elt F) (mmLoc d))) ∗ (zzLoc d ↦{q} (Z : Buf (Elt F) (zzLoc d))) ∗ ptLoc d ↦[rowSet (widL L)]{fullShare} f₀)
        ∗ scopedBufs (V d (cV L) (jV L)) ∗ scopedSems0 (V d (cV L) (jV L)) ∗ owes (V d (cV L) (jV L)) O W) : sProp (MM F))
      ⊢ wp frame (wpE (defs₀ (F := F)) 𝒱₀ (V d (cV L) (jV L)) none) Set.univ
          (cc1_hist_kernel L xV (Memref.isWhole_whole _) mV (Memref.isWhole_whole _) zV (Memref.isWhole_whole _) pV (Memref.isWhole_whole _)
            sB (Memref.isWhole_whole _) sM (Memref.isWhole_whole _) sH (Memref.isWhole_whole _) cc1_scoped0 cc1_scoped1 cc1_scoped2 cc1_scoped3)
          fun _ => iprop(((xtLoc d ↦{q} (X : Buf (Elt F) (xtLoc d))) ∗ (mmLoc d ↦{q} (M : Buf (Elt F) (mmLoc d))) ∗ (zzLoc d ↦{q} (Z : Buf (Elt F) (zzLoc d)))
              ∗ ptLoc d ↦[rowSet (widL L)]{fullShare} (histBuf X M Z : Buf (Elt F) (ptLoc d)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  simp only [cc1_hist_kernel_eq_skeleton]; unfold cc1_hist_kernel_skel
  simp only [k1_part14_eq_skeleton]; unfold k1_part14_skel
  iintro ⟨#Hlv, -, ⟨Hx, Hm, Hz, Hp⟩, ⟨⟨%fB, HB⟩, ⟨%fM, HM⟩, ⟨%fH, HH⟩, Hbufs⟩, ⟨HsA, HsB, HsC, HsD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx := (Entails.of_eq (show (xtLoc d ↦{q} (X : Buf (Elt F) (xtLoc d)) : sProp (MM F)) = ((xV).view.loc (V d (cV L) (jV L)) ↦{q} X) from rfl)) $$ Hx
  ihave Hm := (Entails.of_eq (show (mmLoc d ↦{q} (M : Buf (Elt F) (mmLoc d)) : sProp (MM F)) = ((mV).view.loc (V d (cV L) (jV L)) ↦{q} M) from rfl)) $$ Hm
  ihave Hz := (Entails.of_eq (show (zzLoc d ↦{q} (Z : Buf (Elt F) (zzLoc d)) : sProp (MM F)) = ((zV).view.loc (V d (cV L) (jV L)) ↦{q} Z) from rfl)) $$ Hz
  ihave HB := (Entails.of_eq (show ((V d (cV L) (jV L)).loc cc1_scratch0 ↦{fullShare} fB : sProp (MM F)) = ((sB).view.loc (V d (cV L) (jV L)) ↦{fullShare} fB) from rfl)) $$ HB
  ihave HM := (Entails.of_eq (show ((V d (cV L) (jV L)).loc cc1_scratch1 ↦{fullShare} fM : sProp (MM F)) = ((sM).view.loc (V d (cV L) (jV L)) ↦{fullShare} fM) from rfl)) $$ HM
  ihave HH := (Entails.of_eq (show ((V d (cV L) (jV L)).loc cc1_scratch2 ↦{fullShare} fH : sProp (MM F)) = ((sH).view.loc (V d (cV L) (jV L)) ↦{fullShare} fH) from rfl)) $$ HH
  sl_exec (disch := exact View.amount_pos _ _ (show 0 < _ by decide))
  have e5 : tile_body.sl.v5_ld d L M fM = loR M := congrArg (fun f => (sM).view.readAt (Elt F) (Rect.unit (s := S2x16) ![0, 0] S1x16.size inb_S2x16_S1x16_0_0).toLoadRect f) (View.write_whole_univ _ _ _)
  have e7 : tile_body.sl.v7_ld d L M fM = hiR M := congrArg (fun f => (sM).view.readAt (Elt F) (Rect.unit (s := S2x16) ![1, 0] S1x16.size inb_S2x16_S1x16_1_0).toLoadRect f) (View.write_whole_univ _ _ _)
  simp only [e5, e7]
  ihave HH := (Entails.of_eq (show ((sH).view.loc (V d (cV L) (jV L)) ↦{fullShare} _ : sProp (MM F)) = ((sH).view.loc (V d (cV L) (jV L)) ↦{fullShare} Z) from
    congrArg _ ((View.write_whole_univ _ _ _).trans rfl))) $$ HH
  sl_for (fun k _ => inv1 d L X q O W (tileH X M Z L k)) $$ [Hmw Hx HB HH HsC HO]
  case region =>
    intro k u
    unfold tileH
    rw [upTo_succ]
    exact wp_chunk d L X q O W (loR M) (hiR M) _ k u mV (Memref.isWhole_whole _) zV (Memref.isWhole_whole _) pV (Memref.isWhole_whole _) sM (Memref.isWhole_whole _) cc1_scoped0 cc1_scoped1 cc1_scoped3
  · rw [show tileH X M Z L 0 = Z from upTo_zero _ _]
    unfold inv1
    isplitl [Hmw]; · iexact Hmw
    isplitl [Hx]; · iexact Hx
    isplitl [HB]; · iexists _; iexact HB
    isplitl [HH]; · iexact HH
    isplitl [HsC]; · iexact HsC
    iexists _; isplitr
    swap; · iexact HO
    ipureintro; intro p hp
    rcases Finset.mem_insert.mp hp with hp | hp
    · exact .inr (.inl (hp ▸ rfl))
    rcases Finset.mem_insert.mp hp with hp | hp
    · exact .inr (.inl (hp ▸ rfl))
    exact .inl hp
  have hdma : ∀ k, k = k1_t1_loop.trips → tileH X M Z L k = histRow X M Z L := fun k hk => hk ▸ rfl
  iintro %_ HI
  unfold inv1
  rw [hdma _ rfl]
  icases HI with ⟨#Hmw, Hx, ⟨%g, HB⟩, HH, HsC, %W', %hW', HO⟩
  ihave Hp := (Entails.of_eq (pts_pRowK (F := F) d L f₀).symm) $$ Hp
  sl_exec (disch := exact View.amount_pos _ _ (show 0 < _ by decide))
  sl_step
  isplitl [Hx Hm Hz Hp]
  · isplitl [Hx]; · iexact Hx
    isplitl [Hm]; · iexact Hm
    isplitl [Hz]; · iexact Hz
    iapply (Entails.of_eq ((pts_pRowK (F := F) d L _).trans (hist_lands d L X M Z f₀)))
    iexact Hp
  isplitl [HB HM HH Hbufs]
  · isplitl [HB]; · iexists _; iexact HB
    isplitl [HM]; · iexists _; iexact HM
    isplitl [HH]; · iexists _; iexact HH
    iexact Hbufs
  isplitl [HsA HsB HsC HsD Hsems]
  · isplitl [HsA]; · iexact HsA
    isplitl [HsB]; · iexact HsB
    isplitl [HsC]; · iexact HsC
    isplitl [HsD]; · iexact HsD
    iexact Hsems
  iexists _; isplitr
  swap; · iexact HO
  ipureintro; intro p hp
  rcases Finset.mem_insert.mp hp with hp | hp
  · exact .inr (.inl (hp ▸ rfl))
  · exact hW' p hp

end Tile

end Cert.Proof

end

end
-- ==== Proof.Call.lean ====
/-
  The SparseCore call: what it hands the tiles and what they hand back, each tile its share of the three arrays it reads
  and its own row of the partial results, and the tiles' runs as the launch theorem asks for them.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "pV" => (Memref.whole Cert.KernelIdeal.main_v3_scv : Memref Cert.KernelIdeal.sig Kind.scVector Space.hbm Cert.KernelIdeal.S32x48000 EltTy.f32)
local notation "xV" => (Memref.whole Cert.KernelIdeal.main_v1_0_scv : Memref Cert.KernelIdeal.sig Kind.scVector Space.hbm Cert.KernelIdeal.S16x524288 EltTy.f32)
local notation "mV" => (Memref.whole Cert.KernelIdeal.main_v1_1_scv : Memref Cert.KernelIdeal.sig Kind.scVector Space.hbm Cert.KernelIdeal.S2x16 EltTy.f32)
local notation "zV" => (Memref.whole Cert.KernelIdeal.main_v2_scv : Memref Cert.KernelIdeal.sig Kind.scVector Space.hbm Cert.KernelIdeal.S48000 EltTy.f32)
local notation "sB" => (Memref.whole Cert.KernelIdeal.cc1_scratch0 : Memref Cert.KernelIdeal.sig Kind.scVector Space.vmem Cert.KernelIdeal.S16x4096 EltTy.f32)
local notation "sM" => (Memref.whole Cert.KernelIdeal.cc1_scratch1 : Memref Cert.KernelIdeal.sig Kind.scVector Space.vmem Cert.KernelIdeal.S2x16 EltTy.f32)
local notation "sH" => (Memref.whole Cert.KernelIdeal.cc1_scratch2 : Memref Cert.KernelIdeal.sig Kind.scVector Space.vmem Cert.KernelIdeal.S48000 EltTy.f32)

/-- What tile `w` holds: its shares of the columns, the ranges and the cleared histogram, and its row of the results. -/
def piece (d : Dev nD) (w : Fin 32) (X : Vec F S16x524288 .f32) (M : Vec F S2x16 .f32) (Z : Vec F S48000 .f32) (f : Vec F S32x48000 .f32) : sProp (MM F) :=
  iprop((xtLoc d ↦{Transfers.shareTok fullShare 32 w} (X : Buf (Elt F) (xtLoc d))) ∗ (mmLoc d ↦{Transfers.shareTok fullShare 32 w} (M : Buf (Elt F) (mmLoc d)))
    ∗ (zzLoc d ↦{Transfers.shareTok fullShare 32 w} (Z : Buf (Elt F) (zzLoc d))) ∗ ptLoc d ↦[rowSet w]{fullShare} (f : Buf (Elt F) (ptLoc d)))

instance piece_storable (d : Dev nD) (w : Fin 32) (X : Vec F S16x524288 .f32) (M : Vec F S2x16 .f32) (Z : Vec F S48000 .f32) (f : Vec F S32x48000 .f32) :
    BI.Storable (upEmb : UEmb _ (MM F)) (piece d w X M Z f) := by unfold piece; infer_instance

theorem nCore_zero : (K (F := F)).nCore 0 = 2 := rfl
theorem nSub_zero : (K (F := F)).nSub 0 = 16 := rfl

variable [FloatOps F]
variable (X : Dev nD → Vec F S16x524288 .f32) (M : Dev nD → Vec F S2x16 .f32) (Z : Dev nD → Vec F S48000 .f32) (f₀ : Dev nD → Vec F S32x48000 .f32)

/-- What a tile takes, -/
def goP (d : Dev nD) (c : Fin 2) (i : Fin 16) : sProp (MM F) := piece d (wid c i) (X d) (M d) (Z d) (f₀ d)
/-- and hands back. -/
def tdP (d : Dev nD) (c : Fin 2) (i : Fin 16) : sProp (MM F) := piece d (wid c i) (X d) (M d) (Z d) (histBuf (X d) (M d) (Z d))

instance goP_storable (d : Dev nD) (c : Fin 2) (i : Fin 16) : BI.Storable (upEmb : UEmb _ (MM F)) (goP X M Z f₀ d c i) := piece_storable d _ _ _ _ _
instance tdP_storable (d : Dev nD) (c : Fin 2) (i : Fin 16) : BI.Storable (upEmb : UEmb _ (MM F)) (tdP X M Z d c i) := piece_storable d _ _ _ _ _

/-- The call's exchange: a SparseCore takes what its tiles take and hands back what they hand back. -/
def P : (K (F := F)).Pay (nD := nD) (Val := Elt F) (Name := ℕ) (U := UU) where
  st := fun q d c => match q with | 0 => bigSep Finset.univ fun i : Fin 16 => goP X M Z f₀ d (Fin.cast nCore_zero c) i
  dn := fun q d c => match q with | 0 => bigSep Finset.univ fun i : Fin 16 => tdP X M Z d (Fin.cast nCore_zero c) i
  go := fun q d c i => match q with | 0 => goP X M Z f₀ d (Fin.cast nCore_zero c) (Fin.cast nSub_zero i)
  td := fun q d c i => match q with | 0 => tdP X M Z d (Fin.cast nCore_zero c) (Fin.cast nSub_zero i)
  x := fun _ _ => iprop(emp)

instance P_storable : (P X M Z f₀).IsStorable where
  st q d c := match q with
    | 0 => (inferInstance : BI.Storable (upEmb : UEmb _ (MM F)) (bigSep Finset.univ fun i : Fin 16 => goP X M Z f₀ d (Fin.cast nCore_zero c) i))
  dn q d c := match q with
    | 0 => (inferInstance : BI.Storable (upEmb : UEmb _ (MM F)) (bigSep Finset.univ fun i : Fin 16 => tdP X M Z d (Fin.cast nCore_zero c) i))
  go q d c i := match q with
    | 0 => piece_storable d _ _ _ _ _
  td q d c i := match q with
    | 0 => piece_storable d _ _ _ _ _

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_hist_kernel (coordsV c s)
          xV (Memref.isWhole_whole _) mV (Memref.isWhole_whole _) zV (Memref.isWhole_whole _) pV (Memref.isWhole_whole _)
          sB (Memref.isWhole_whole _) sM (Memref.isWhole_whole _) sH (Memref.isWhole_whole _) cc1_scoped0 cc1_scoped1 cc1_scoped2 cc1_scoped3) ⟨⟩ c s := rfl

theorem tileObl (hF : (K (F := F)).Facts) : (K (F := F)).TileObl (D (F := F)) 𝒱 (P X M Z f₀) v₀ 0 := by
  intro d c i O W hO _ _
  simp only [show (P X M Z f₀).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (X d) (M d) (Z d) (Transfers.shareTok fullShare 32 (wid (Fin.cast nCore_zero c) (Fin.cast nSub_zero i))) hF O W hO (f₀ d)

omit [FloatOps F] in
theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P X M Z f₀) 0 := by
  intro d c
  show (bigSep Finset.univ fun i : Fin 16 => goP X M Z f₀ d (Fin.cast nCore_zero c) i) ⊢ |={Set.univ}=> iprop(
      (bigSep Finset.univ fun i : Fin ((K (F := F)).nSub 0) => goP X M Z f₀ d (Fin.cast nCore_zero c) (Fin.cast nSub_zero i))
      ∗ ((bigSep Finset.univ fun i : Fin ((K (F := F)).nSub 0) => tdP X M Z d (Fin.cast nCore_zero c) (Fin.cast nSub_zero i))
          -∗ bigSep Finset.univ fun i : Fin 16 => tdP X M Z d (Fin.cast nCore_zero c) i))
  rw [bigSep_tasks (F := F) (fun i => goP X M Z f₀ d (Fin.cast nCore_zero c) i), bigSep_tasks (F := F) (fun i => tdP X M Z d (Fin.cast nCore_zero c) i)]
  iintro H; imodintro
  isplitl [H]; · iexact H
  iintro H; iexact H

/-! ## The arrays dealt to the tiles, and joined back -/

theorem rowSet_eq (w : Fin 32) : rowSet w = (row w).set := by
  show ((View.whole (main_v3_scv : Ref sig .scVector)).slice (row w)).set = _
  rw [View.set_slice]; exact Finset.map_refl
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
theorem rows_cover : (Finset.univ : Finset (Fin 32)).biUnion rowSet = Finset.univ :=
  (Finset.biUnion_congr rfl fun i _ => rowSet_eq i).trans (Rect.biUnion_part hdiv)
omit [FloatOps F] in
theorem pt_rows (d : Dev nD) (f : Buf (Elt F) (ptLoc d)) :
    (ptLoc d ↦{fullShare} f : sProp (MM F)) = bigSep Finset.univ fun w : Fin 32 => ptLoc d ↦[rowSet w]{fullShare} f := by
  rw [← pointsTo_biUnion Finset.univ (ℓ := ptLoc d) rowSet rows_disjoint, rows_cover]; try rfl

/-- The tiles by SparseCore and number. -/
def widE : Fin 2 × Fin 16 ≃ Fin 32 where
  toFun p := wid p.1 p.2
  invFun w := (⟨w.val % 2, Nat.mod_lt _ (by decide)⟩, ⟨w.val / 2, by omega⟩)
  left_inv p := Prod.ext (Fin.ext (by show (2 * p.2.val + p.1.val) % 2 = p.1.val; omega)) (Fin.ext (by show (2 * p.2.val + p.1.val) / 2 = p.2.val; omega))
  right_inv w := Fin.ext (by show 2 * (w.val / 2) + w.val % 2 = w.val; omega)

omit [FloatOps F] in
theorem bigSep_cores (Φ : Fin 32 → sProp (MM F)) :
    (bigSep Finset.univ fun c : Fin ((K (F := F)).nCore 0) => bigSep Finset.univ fun i : Fin 16 => Φ (wid (Fin.cast nCore_zero c) i)) = bigSep Finset.univ Φ := by
  rw [bigSep_univ_equiv widE Φ, bigSep_univ_prod]
  exact bigSep_congr fun _ _ => rfl

/-- What stays with the caller while the tiles hold their shares. -/
def restP (d : Dev nD) (X : Vec F S16x524288 .f32) (M : Vec F S2x16 .f32) (Z : Vec F S48000 .f32) : sProp (MM F) :=
  iprop((xtLoc d ↦{Transfers.shareDrop fullShare 32} (X : Buf (Elt F) (xtLoc d))) ∗ (mmLoc d ↦{Transfers.shareDrop fullShare 32} (M : Buf (Elt F) (mmLoc d)))
    ∗ zzLoc d ↦{Transfers.shareDrop fullShare 32} (Z : Buf (Elt F) (zzLoc d)))
/-- The four arrays whole. -/
def wholeP (d : Dev nD) (X : Vec F S16x524288 .f32) (M : Vec F S2x16 .f32) (Z : Vec F S48000 .f32) (f : Vec F S32x48000 .f32) : sProp (MM F) :=
  iprop((xtLoc d ↦{fullShare} (X : Buf (Elt F) (xtLoc d))) ∗ (mmLoc d ↦{fullShare} (M : Buf (Elt F) (mmLoc d)))
    ∗ (zzLoc d ↦{fullShare} (Z : Buf (Elt F) (zzLoc d))) ∗ ptLoc d ↦{fullShare} (f : Buf (Elt F) (ptLoc d)))

omit [FloatOps F] in
theorem deal (d : Dev nD) (X : Vec F S16x524288 .f32) (M : Vec F S2x16 .f32) (Z : Vec F S48000 .f32) (f : Vec F S32x48000 .f32) :
    wholeP d X M Z f ⊢ iprop(restP d X M Z ∗ bigSep Finset.univ fun w : Fin 32 => piece d w X M Z f) := by
  unfold wholeP restP piece
  rw [bigSep_sep', bigSep_sep', bigSep_sep', pt_rows]
  iintro ⟨Hx, Hm, Hz, Hp⟩
  ihave Hx := (Transfers.pointsTo_toks_split fullShare 32) $$ Hx
  ihave Hm := (Transfers.pointsTo_toks_split fullShare 32) $$ Hm
  ihave Hz := (Transfers.pointsTo_toks_split fullShare 32) $$ Hz
  icases Hx with ⟨Hx0, Hx⟩
  icases Hm with ⟨Hm0, Hm⟩
  icases Hz with ⟨Hz0, Hz⟩
  isplitl [Hx0 Hm0 Hz0]
  · isplitl [Hx0]; · iexact Hx0
    isplitl [Hm0]; · iexact Hm0
    iexact Hz0
  isplitl [Hx]; · iexact Hx
  isplitl [Hm]; · iexact Hm
  isplitl [Hz]; · iexact Hz
  iexact Hp

omit [FloatOps F] in
theorem gather (d : Dev nD) (X : Vec F S16x524288 .f32) (M : Vec F S2x16 .f32) (Z : Vec F S48000 .f32) (f : Vec F S32x48000 .f32) :
    iprop(restP d X M Z ∗ bigSep Finset.univ fun w : Fin 32 => piece d w X M Z f) ⊢ wholeP d X M Z f := by
  unfold wholeP restP piece
  rw [bigSep_sep', bigSep_sep', bigSep_sep', pt_rows]
  iintro ⟨⟨Hx0, Hm0, Hz0⟩, Hx, Hm, Hz, Hp⟩
  isplitl [Hx0 Hx]; · iapply (Transfers.pointsTo_toks_join fullShare 32); isplitl [Hx0] <;> iassumption
  isplitl [Hm0 Hm]; · iapply (Transfers.pointsTo_toks_join fullShare 32); isplitl [Hm0] <;> iassumption
  isplitl [Hz0 Hz]; · iapply (Transfers.pointsTo_toks_join fullShare 32); isplitl [Hz0] <;> iassumption
  iexact Hp

/-- The call on device `d`: from the four arrays whole, back to them whole with the histograms in the last. -/
theorem st0_eq (d : Dev nD) :
    (bigSep Finset.univ fun c : Fin ((K (F := F)).nCore 0) => (P X M Z f₀).st 0 d c) = bigSep Finset.univ fun w : Fin 32 => piece d w (X d) (M d) (Z d) (f₀ d) :=
  bigSep_cores fun w => piece d w (X d) (M d) (Z d) (f₀ d)
theorem dn0_eq (d : Dev nD) :
    (bigSep Finset.univ fun c : Fin ((K (F := F)).nCore 0) => (P X M Z f₀).dn 0 d c)
      = bigSep Finset.univ fun w : Fin 32 => piece d w (X d) (M d) (Z d) (histBuf (X d) (M d) (Z d)) :=
  bigSep_cores fun w => piece d w (X d) (M d) (Z d) (histBuf (X d) (M d) (Z d))

end Cert.Proof

end

end
-- ==== Proof.Region2.lean ====
/-
  The second TensorCore call: its one run of `cc2__final_body` over whole arrays, and the pipeline's proof data — what
  the call leaves in its result, from what the arrays hold when it is entered.
-/
module

public import proofs.«01_k».proof.Proof.Common
public import Idealize.ShloMosaic.Lib.Pipeline.FrameBody
public import Idealize.ShloMosaic.Lib.Pipeline.Value
public import Idealize.ShloMosaic.Lib.Pipeline.Cells
public import Idealize.ShloMosaic.Lib.Pipeline.RegionArrays

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- What every device's TensorCore buffers hold. -/
abbrev Vals (F : FTy → Type) : Type := (c : Dev nD) → (b : Ref sig .tc) → Buf (Elt F) ((c : Thread nD τ).loc b)

/-- The waits a TensorCore may have recorded before call `n`. -/
def below (F : FTy → Type) (c : Dev nD) (n : ℕ) : Set (SemLoc sig × HIx 1) := {p | (K (F := F)).lev (T c, p.1) p.2 ≤ 8 * n}

/-- The second call's result, of the arrays it reads. -/
def finalV (J : Vec F S32x120x400 .f32) (a1 : Vec F S400x20 .f32) (a2 : Vec F S20x400 .f32) (b1 : Vec F S400x20 .f32) (b2 : Vec F S20x400 .f32)
    (p1 p2 : Vec F S120x16 .f32) : Vec F S16x16 .f32 :=
  k2_pay1 (k2_pay5 J a1 b1 a2 b2) (k2_pay6 J b1) (k2_pay7 J a1) p1 p2 p2 p1

theorem zero3 : (![0, 0, 0] : Fin 3 → Nat) = fun _ => 0 := funext fun a => by fin_cases a <;> rfl
theorem zero2 : (![0, 0] : Fin 2 → Nat) = fun _ => 0 := funext fun a => by fin_cases a <;> rfl

set_option maxHeartbeats 1000000 in
theorem run2 (c : Dev nD) (E : Set ℕ) (i : grid2.Coords) (arg1 : Memref sig .tc .vmem S32x120x400 .f32) (harg1 : arg1.IsWhole) (arg2 : Memref sig .tc .vmem S400x20 .f32) (harg2 : arg2.IsWhole)
    (arg3 : Memref sig .tc .vmem S20x400 .f32) (harg3 : arg3.IsWhole) (arg4 : Memref sig .tc .vmem S400x20 .f32) (harg4 : arg4.IsWhole) (arg5 : Memref sig .tc .vmem S20x400 .f32) (harg5 : arg5.IsWhole)
    (arg6 : Memref sig .tc .vmem S120x16 .f32) (harg6 : arg6.IsWhole) (arg7 : Memref sig .tc .vmem S120x16 .f32) (harg7 : arg7.IsWhole) (arg8 : Memref sig .tc .vmem S16x16 .f32) (harg8 : arg8.IsWhole)
    (J : Vec F S32x120x400 .f32) (a1 : Vec F S400x20 .f32) (a2 : Vec F S20x400 .f32) (b1 : Vec F S400x20 .f32) (b2 : Vec F S20x400 .f32) (p1 p2 : Vec F S120x16 .f32) (Q : PUnit → sProp (MM F)) :
    iprop(owns (c : Thread nD τ) arg1 fullShare J ∗ owns (c : Thread nD τ) arg2 fullShare a1 ∗ owns (c : Thread nD τ) arg3 fullShare a2 ∗ owns (c : Thread nD τ) arg4 fullShare b1
        ∗ owns (c : Thread nD τ) arg5 fullShare b2 ∗ owns (c : Thread nD τ) arg6 fullShare p1 ∗ owns (c : Thread nD τ) arg7 fullShare p2 ∗ (∃ d, owns (c : Thread nD τ) arg8 fullShare d)
        ∗ (iprop(owns (c : Thread nD τ) arg1 fullShare J ∗ owns (c : Thread nD τ) arg2 fullShare a1 ∗ owns (c : Thread nD τ) arg3 fullShare a2 ∗ owns (c : Thread nD τ) arg4 fullShare b1
        ∗ owns (c : Thread nD τ) arg5 fullShare b2 ∗ owns (c : Thread nD τ) arg6 fullShare p1 ∗ owns (c : Thread nD τ) arg7 fullShare p2 ∗ owns (c : Thread nD τ) arg8 fullShare (finalV J a1 a2 b1 b2 p1 p2)) -∗ Q ⟨⟩))
      ⊢ wp frame (wpE (defs₀ (F := F)) 𝒱₀ c none) E (cc2__final_body i arg1 harg1 arg2 harg2 arg3 harg3 arg4 harg4 arg5 harg5 arg6 harg6 arg7 harg7 arg8 harg8) Q := by
  simp only [cc2__final_body_eq_skeleton]; unfold cc2__final_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  iexists _; isplitr
  swap; · iexact H7
  ipureintro
  rw [View.read_writes_eq_canon _ _ _ (fun y => View.cover_of_tiled [⟨_, _⟩] S16x16.size (by rfl) y), View.canon_unit_zero zero2]
  unfold finalV run2.sl.r run2.sl.r_1 run2.sl.r_2
  simp only [View.readAt_eq_ld, View.ld_unit_zero (S := S400x20) zero2, View.ld_unit_zero (S := S20x400) zero2, View.ld_unit_zero (S := S120x16) zero2, View.ld_unit_zero (S := S32x120x400) zero3]

/-! ## The proof data -/

section
variable (V : Vals F)

/-- Window `w`'s block of its array. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The call's result, of what the arrays hold. -/
def out2 (c : Dev nD) : Vec F S16x16 .f32 :=
  finalV (V c main_v4) (V c main_cst) (V c main_cst_0) (V c main_cst_1) (V c main_cst_2) (V c main_cst_3) (V c main_cst_4)

def dat2 (c : Dev nD) : Dat τ (Elt F) (HIx 1) ℕ UU ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => finalV (blk2 V c 0 t) (blk2 V c 1 t) (blk2 V c 2 t) (blk2 V c 3 t) (blk2 V c 4 t) (blk2 V c 5 t) (blk2 V c 6 t)
  Φ _ := Pipeline.scopedRest (Ix := HIx 1) (Name := ℕ) (U := UU) (Lvl := ℕ) (Val := Elt F) spec2 c
  q _ := fullShare
  owed _ := (K (F := F)).Otc c 1
  recorded _ := below F c 1

theorem before2_0 (c : Dev nD) (t d) : (dat2 V c).before 0 t d = blk2 V c 0 t :=
  (dat2 V c).before_in_eq_fetched 0 rfl (fun _ => rfl) (fun _ _ _ => rfl) (fun t => by dsimp only [dat2]; rfl) t d
theorem before2_1 (c : Dev nD) (t d) : (dat2 V c).before 1 t d = blk2 V c 1 t :=
  (dat2 V c).before_in_eq_fetched 1 rfl (fun _ => rfl) (fun _ _ _ => rfl) (fun t => by dsimp only [dat2]; rfl) t d
theorem before2_2 (c : Dev nD) (t d) : (dat2 V c).before 2 t d = blk2 V c 2 t :=
  (dat2 V c).before_in_eq_fetched 2 rfl (fun _ => rfl) (fun _ _ _ => rfl) (fun t => by dsimp only [dat2]; rfl) t d
theorem before2_3 (c : Dev nD) (t d) : (dat2 V c).before 3 t d = blk2 V c 3 t :=
  (dat2 V c).before_in_eq_fetched 3 rfl (fun _ => rfl) (fun _ _ _ => rfl) (fun t => by dsimp only [dat2]; rfl) t d
theorem before2_4 (c : Dev nD) (t d) : (dat2 V c).before 4 t d = blk2 V c 4 t :=
  (dat2 V c).before_in_eq_fetched 4 rfl (fun _ => rfl) (fun _ _ _ => rfl) (fun t => by dsimp only [dat2]; rfl) t d
theorem before2_5 (c : Dev nD) (t d) : (dat2 V c).before 5 t d = blk2 V c 5 t :=
  (dat2 V c).before_in_eq_fetched 5 rfl (fun _ => rfl) (fun _ _ _ => rfl) (fun t => by dsimp only [dat2]; rfl) t d
theorem before2_6 (c : Dev nD) (t d) : (dat2 V c).before 6 t d = blk2 V c 6 t :=
  (dat2 V c).before_in_eq_fetched 6 rfl (fun _ => rfl) (fun _ _ _ => rfl) (fun t => by dsimp only [dat2]; rfl) t d

theorem row2 (t : Fin cfg2.N) : defs₀ (F := F) .tc cfg2.body (cfg2.bodyArgs t (cfg2.slots t)) = bodyAt2 t := rfl

set_option maxHeartbeats 1000000 in
theorem body2 (c : Dev nD) : BodyObligation (dat2 V c) (defs₀ (F := F)) 𝒱₀ none Set.univ := fun t => by
  rw [bigSep_W2, bigSep_W2, row2]
  unfold bodyAt2
  simp only [before2_0, before2_1, before2_2, before2_3, before2_4, before2_5, before2_6]
  rw [show (dat2 V c).Φ t.succ = (dat2 V c).Φ t.castSucc from rfl, show (dat2 V c).owesAt none t.succ = (dat2 V c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run2 c Set.univ (grid2.coords t) _ _ _ _ _ _ _ _ _ _ _ _ _ _ _ _ (blk2 V c 0 t) (blk2 V c 1 t) (blk2 V c 2 t) (blk2 V c 3 t) (blk2 V c 4 t) (blk2 V c 5 t) (blk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## What the call leaves -/

/-- At the one point every window's block is its whole array. -/
theorem idx2 (w : Fin 8) (t : Fin cfg2.N) : ∀ a, (win2 w).index t a = 0 := by
  revert t; revert w; decide +kernel

theorem blk2_0 (c : Dev nD) (t : Fin cfg2.N) : blk2 V c 0 t = V c main_v4 := by
  have h : ∀ j, ((cfg2.win 0).blk t).view.emb j = j := fun j => funext fun a => Fin.ext (by
    show win2_0.index t a * _ + 1 * (j a).val = (j a).val
    rw [idx2 0 t a]; omega)
  funext j; show V c main_v4 (((cfg2.win 0).blk t).view.emb j) = V c main_v4 j; rw [h]
theorem blk2_1 (c : Dev nD) (t : Fin cfg2.N) : blk2 V c 1 t = V c main_cst := by
  have h : ∀ j, ((cfg2.win 1).blk t).view.emb j = j := fun j => funext fun a => Fin.ext (by
    show win2_1.index t a * _ + 1 * (j a).val = (j a).val
    rw [idx2 1 t a]; omega)
  funext j; show V c main_cst (((cfg2.win 1).blk t).view.emb j) = V c main_cst j; rw [h]
theorem blk2_2 (c : Dev nD) (t : Fin cfg2.N) : blk2 V c 2 t = V c main_cst_0 := by
  have h : ∀ j, ((cfg2.win 2).blk t).view.emb j = j := fun j => funext fun a => Fin.ext (by
    show win2_2.index t a * _ + 1 * (j a).val = (j a).val
    rw [idx2 2 t a]; omega)
  funext j; show V c main_cst_0 (((cfg2.win 2).blk t).view.emb j) = V c main_cst_0 j; rw [h]
theorem blk2_3 (c : Dev nD) (t : Fin cfg2.N) : blk2 V c 3 t = V c main_cst_1 := by
  have h : ∀ j, ((cfg2.win 3).blk t).view.emb j = j := fun j => funext fun a => Fin.ext (by
    show win2_3.index t a * _ + 1 * (j a).val = (j a).val
    rw [idx2 3 t a]; omega)
  funext j; show V c main_cst_1 (((cfg2.win 3).blk t).view.emb j) = V c main_cst_1 j; rw [h]
theorem blk2_4 (c : Dev nD) (t : Fin cfg2.N) : blk2 V c 4 t = V c main_cst_2 := by
  have h : ∀ j, ((cfg2.win 4).blk t).view.emb j = j := fun j => funext fun a => Fin.ext (by
    show win2_4.index t a * _ + 1 * (j a).val = (j a).val
    rw [idx2 4 t a]; omega)
  funext j; show V c main_cst_2 (((cfg2.win 4).blk t).view.emb j) = V c main_cst_2 j; rw [h]
theorem blk2_5 (c : Dev nD) (t : Fin cfg2.N) : blk2 V c 5 t = V c main_cst_3 := by
  have h : ∀ j, ((cfg2.win 5).blk t).view.emb j = j := fun j => funext fun a => Fin.ext (by
    show win2_5.index t a * _ + 1 * (j a).val = (j a).val
    rw [idx2 5 t a]; omega)
  funext j; show V c main_cst_3 (((cfg2.win 5).blk t).view.emb j) = V c main_cst_3 j; rw [h]
theorem blk2_6 (c : Dev nD) (t : Fin cfg2.N) : blk2 V c 6 t = V c main_cst_4 := by
  have h : ∀ j, ((cfg2.win 6).blk t).view.emb j = j := fun j => funext fun a => Fin.ext (by
    show win2_6.index t a * _ + 1 * (j a).val = (j a).val
    rw [idx2 6 t a]; omega)
  funext j; show V c main_cst_4 (((cfg2.win 6).blk t).view.emb j) = V c main_cst_4 j; rw [h]

/-- The result after the call. -/
theorem arr2_7 (c : Dev nD) : (dat2 V c).arrAt 7 cfg2.N = (out2 V c : Buf (Elt F) ((c : Thread nD τ).loc main_v5)) := by
  have h : ∀ j, ((cfg2.win 7).blk t2_0).view.emb j = j := fun j => funext fun a => Fin.ext (by
    show win2_7.index t2_0 a * _ + 1 * (j a).val = (j a).val
    rw [idx2 7 t2_0 a]; omega)
  have hb := (dat2 V c).read_blk_arrAt_eq_flushed 7 (fun t t' _ _ hne => absurd ((fin_N2 t).trans (fin_N2 t').symm) hne) cfg2.N t2_0 t2_0.isLt (flush2_7 t2_0)
  funext j
  have hj := congrFun hb j
  have e : (dat2 V c).arrAt 7 cfg2.N (((cfg2.win 7).blk t2_0).view.emb j) = (dat2 V c).after 7 t2_0 j := hj
  rw [h j] at e
  rw [e, show (dat2 V c).after 7 t2_0 = finalV (blk2 V c 0 t2_0) (blk2 V c 1 t2_0) (blk2 V c 2 t2_0) (blk2 V c 3 t2_0) (blk2 V c 4 t2_0) (blk2 V c 5 t2_0) (blk2 V c 6 t2_0) from by dsimp only [dat2]]
  rw [blk2_0, blk2_1, blk2_2, blk2_3, blk2_4, blk2_5, blk2_6]; rfl

end

end Cert.Proof

end

end
-- ==== Proof.Region0.lean ====
/-
  The first TensorCore call: one grid point of `cc0__prep_body` — a block of the columns transposed, the running minimum
  and maximum per column folded over the block — and the pipeline's proof data over its 128 points.
-/
module

public import proofs.«01_k».proof.Proof.Region2
public import Idealize.ShloMosaic.Lib.ValueIdxCore
public import Idealize.ShloMosaic.Lib.WordCmp
public import Idealize.ShloMosaic.Lib.Pipeline.ValueKit.Geometry
public import Idealize.ShloMosaic.Lib.ValueLayout

@[expose] public section

set_option maxRecDepth 16384

noncomputable section

namespace Cert.Proof

open Cert.KernelIdeal Cert.KernelIdeal.Gen
open Idealize.ShloMosaic Idealize.ShloMosaic.TcCoe Idealize.ShloMosaic.Tactic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The first point is the one that clears the running values, -/
abbrev first0 (i : grid0.Coords) : Prop :=
  Scalar.cmpi .ne (Scalar.extui (Scalar.cmpi .eq (BitVec.ofNat 32 (i 0).val) 0#32) : BitVec 32) 0#32 = 1#1
/-- the last the one that writes them out. -/
abbrev last0 (i : grid0.Coords) : Prop := k0_cond2 i = 1#1

/-- The ranges as written out: the minima above the maxima. -/
def mmV (mn mx : Vec F S1x16 .f32) : Vec F S2x16 .f32 := fun i => if (i 0).val = 0 then mn (ix2 0 (i 1)) else mx (ix2 0 (i 1))

theorem pair_mmV (mn mx : Vec F S1x16 .f32) :
    View.canon [⟨Rect.unit (s := S2x16) ![1, 0] S1x16.size inb_S2x16_S1x16_1_0, mx⟩, ⟨Rect.unit (s := S2x16) ![0, 0] S1x16.size inb_S2x16_S1x16_0_0, mn⟩] = mmV mn mx := by
  funext i
  have h : (i 0).val < 2 := (i 0).isLt
  by_cases h0 : (i 0).val = 0
  · rw [View.canon_cons_of_not_mem _ _ (by
      rw [Rect.mem_set_unit]; intro h
      have := (h 0).1; simp at this; omega)]
    have e : i = (Rect.unit (s := S2x16) ![0, 0] S1x16.size inb_S2x16_S1x16_0_0).emb (ix2 0 (i 1)) := by
      funext a; apply Fin.ext; fin_cases a
      · show (i 0).val = 0 + 1 * 0; omega
      · show (i 1).val = 0 + 1 * (i 1).val; omega
    rw [e, View.canon_cons_emb, ← e]; unfold mmV; rw [if_pos h0]
  · have e : i = (Rect.unit (s := S2x16) ![1, 0] S1x16.size inb_S2x16_S1x16_1_0).emb (ix2 0 (i 1)) := by
      funext a; apply Fin.ext; fin_cases a
      · show (i 0).val = 1 + 1 * 0; omega
      · show (i 1).val = 0 + 1 * (i 1).val; omega
    rw [e, View.canon_cons_emb, ← e]; unfold mmV; rw [if_neg h0]

theorem pair_cover (mn mx : Vec F S1x16 .f32) (y : S2x16.Idx) :
    ∃ p ∈ ([⟨Rect.unit (s := S2x16) ![1, 0] S1x16.size inb_S2x16_S1x16_1_0, mx⟩, ⟨Rect.unit (s := S2x16) ![0, 0] S1x16.size inb_S2x16_S1x16_0_0, mn⟩] : List (View.Piece (Elt F) S2x16 .f32)), y ∈ p.1.set :=
  View.cover_of_tiled (s := S2x16) _ (![1, 16] : Fin 2 → ℕ) (by rfl) y

/-- What the last store of a whole buffer left. -/
theorem read_whole {S : Shape} {e : EltTy} {κ : Kind} {sp : Space} (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, by
    rw [Rect.mem_set_unit]; intro a; subst h; exact ⟨Nat.zero_le _, by rw [Nat.zero_add]; exact (y a).isLt⟩⟩), View.canon_cons_unit_zero h]

theorem readAt_whole {S : Shape} {e : EltTy} {κ : Kind} {sp : Space} (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.readAt (Elt F) (Rect.unit off S.size inb).toLoadRect (v.writes (Elt F) f (⟨Rect.unit off S.size inb, w⟩ :: L)) = w := by
  rw [View.readAt_eq_ld, read_whole v f h inb w L, View.ld_unit_zero (S := S) h]

set_option maxHeartbeats 4000000 in
theorem run0 (c : Dev nD) (E : Set ℕ) (i : grid0.Coords) (arg1 : Memref sig .tc .vmem S4096x16 .f32) (harg1 : arg1.IsWhole) (arg2 : Memref sig .tc .vmem S16x4096 .f32) (harg2 : arg2.IsWhole)
    (arg3 : Memref sig .tc .vmem S2x16 .f32) (harg3 : arg3.IsWhole) (arg4 : Memref sig .tc .vmem S1x16 .f32) (harg4 : arg4.IsWhole) (arg5 : Memref sig .tc .vmem S1x16 .f32) (harg5 : arg5.IsWhole)
    (x : Vec F S4096x16 .f32) (xi : Vec F S2x16 .f32) (mn mx mn' mx' : Vec F S1x16 .f32) (hne : ¬(first0 i ∧ last0 i))
    (hmn : mn' = k0_pay5 x (if first0 i then k0_pay1 else mn)) (hmx : mx' = k0_pay6 x (if first0 i then k0_pay2 else mx)) (Q : PUnit → sProp (MM F)) :
    iprop(owns (c : Thread nD τ) arg1 fullShare x ∗ (∃ d, owns (c : Thread nD τ) arg2 fullShare d) ∗ owns (c : Thread nD τ) arg3 fullShare xi
        ∗ owns (c : Thread nD τ) arg4 fullShare mn ∗ owns (c : Thread nD τ) arg5 fullShare mx
        ∗ (iprop(owns (c : Thread nD τ) arg1 fullShare x ∗ owns (c : Thread nD τ) arg2 fullShare (k0_pay4 x) ∗ owns (c : Thread nD τ) arg3 fullShare (if last0 i then mmV mn' mx' else xi)
        ∗ owns (c : Thread nD τ) arg4 fullShare mn' ∗ owns (c : Thread nD τ) arg5 fullShare mx') -∗ Q ⟨⟩))
      ⊢ wp frame (wpE (defs₀ (F := F)) 𝒱₀ c none) E (cc0__prep_body i arg1 harg1 arg2 harg2 arg3 harg3 arg4 harg4 arg5 harg5) Q := by
  simp only [cc0__prep_body_eq_skeleton]; unfold cc0__prep_body_skel
  subst hmn hmx
  unfold owns
  by_cases h0 : first0 i
  · have h1 : ¬ last0 i := fun h => hne ⟨h0, h⟩
    rw [if_pos h0, if_pos h0, if_neg h1]
    iintro ⟨⟨%f0, %hf0, H0⟩, ⟨%d1, %f1, -, H1⟩, ⟨%f2, %hf2, H2⟩, ⟨%f3, %hf3, H3⟩, ⟨%f4, %hf4, H4⟩, Hk⟩
    subst hf0 hf2 hf3 hf4
    sl_exec (disch := first | sl_exact h0 | sl_exact h1)
    sl_step
    iapply Hk
    isplitl [H0]; · iexists f0; isplitr; (· ipureintro; rfl); iexact H0
    isplitl [H1]
    · iexists _; isplitr; swap; (· iexact H1); ipureintro
      rw [read_whole _ _ zero2]; simp only [View.readAt_eq_ld, View.ld_unit_zero (S := S4096x16) zero2]
    isplitl [H2]
    · iexists _; isplitr; swap; (· iexact H2); ipureintro
      rfl
    isplitl [H3]
    · iexists _; isplitr; swap; (· iexact H3); ipureintro
      rw [read_whole _ _ zero2]; unfold run0.sl.v7 run0.sl.H3_1 View.readCov; rw [readAt_whole _ _ zero2]; simp only [View.readAt_eq_ld, View.ld_unit_zero (S := S4096x16) zero2]
    iexists _; isplitr; swap; (· iexact H4); ipureintro
    rw [read_whole _ _ zero2]; unfold run0.sl.v14 run0.sl.H4_1 View.readCov; rw [readAt_whole _ _ zero2]; simp only [View.readAt_eq_ld, View.ld_unit_zero (S := S4096x16) zero2]
  · rw [if_neg h0, if_neg h0]
    by_cases h1 : last0 i
    · rw [if_pos h1]
      iintro ⟨⟨%f0, %hf0, H0⟩, ⟨%d1, %f1, -, H1⟩, ⟨%f2, %hf2, H2⟩, ⟨%f3, %hf3, H3⟩, ⟨%f4, %hf4, H4⟩, Hk⟩
      subst hf0 hf2 hf3 hf4
      sl_exec (disch := first | sl_exact h0 | sl_exact h1)
      sl_step
      iapply Hk
      isplitl [H0]; · iexists f0; isplitr; (· ipureintro; rfl); iexact H0
      isplitl [H1]
      · iexists _; isplitr; swap; (· iexact H1); ipureintro
        rw [read_whole _ _ zero2]; simp only [View.readAt_eq_ld, View.ld_unit_zero (S := S4096x16) zero2]
      isplitl [H2]
      · iexists _; isplitr; swap; (· iexact H2); ipureintro
        rw [View.read_writes_eq_canon _ _ _ (pair_cover _ _), pair_mmV]; unfold run0.sl.v24 run0.sl.v26 run0.sl.H3_1_1 run0.sl.H4_1_1 View.readCov; rw [readAt_whole _ _ zero2, readAt_whole _ _ zero2]; simp only [View.readAt_eq_ld, View.ld_unit_zero (S := S4096x16) zero2, View.ld_unit_zero (S := S1x16) zero2]
      isplitl [H3]
      · iexists _; isplitr; swap; (· iexact H3); ipureintro
        unfold run0.sl.H3_1_1; rw [read_whole _ _ zero2]; simp only [View.readAt_eq_ld, View.ld_unit_zero (S := S4096x16) zero2, View.ld_unit_zero (S := S1x16) zero2]
      iexists _; isplitr; swap; (· iexact H4); ipureintro
      unfold run0.sl.H4_1_1; rw [read_whole _ _ zero2]; simp only [View.readAt_eq_ld, View.ld_unit_zero (S := S4096x16) zero2, View.ld_unit_zero (S := S1x16) zero2]
    · rw [if_neg h1]
      iintro ⟨⟨%f0, %hf0, H0⟩, ⟨%d1, %f1, -, H1⟩, ⟨%f2, %hf2, H2⟩, ⟨%f3, %hf3, H3⟩, ⟨%f4, %hf4, H4⟩, Hk⟩
      subst hf0 hf2 hf3 hf4
      sl_exec (disch := first | sl_exact h0 | sl_exact h1)
      sl_step
      iapply Hk
      isplitl [H0]; · iexists f0; isplitr; (· ipureintro; rfl); iexact H0
      isplitl [H1]
      · iexists _; isplitr; swap; (· iexact H1); ipureintro
        rw [read_whole _ _ zero2]; simp only [View.readAt_eq_ld, View.ld_unit_zero (S := S4096x16) zero2]
      isplitl [H2]
      · iexists _; isplitr; swap; (· iexact H2); ipureintro
        rfl
      isplitl [H3]
      · iexists _; isplitr; swap; (· iexact H3); ipureintro
        rw [read_whole _ _ zero2]; simp only [View.readAt_eq_ld, View.ld_unit_zero (S := S4096x16) zero2, View.ld_unit_zero (S := S1x16) zero2]
      iexists _; isplitr; swap; (· iexact H4); ipureintro
      rw [read_whole _ _ zero2]; simp only [View.readAt_eq_ld, View.ld_unit_zero (S := S4096x16) zero2, View.ld_unit_zero (S := S1x16) zero2]

/-! ## The proof data -/

/-- Block `n` of the rows of the input. -/
def rowsV (X : Vec F S524288x16 .f32) (n : ℕ) : Vec F S4096x16 .f32 := fun i => X (ix2 ⟨(n * 4096 + (i 0).val) % 524288, Nat.mod_lt _ (by decide)⟩ (i 1))

/-- The running minimum and maximum of each column over the first `n` blocks. -/
def mnS (X : Vec F S524288x16 .f32) : ℕ → Vec F S1x16 .f32
  | 0 => k0_pay1
  | n + 1 => k0_pay5 (rowsV X n) (mnS X n)
def mxS (X : Vec F S524288x16 .f32) : ℕ → Vec F S1x16 .f32
  | 0 => k0_pay2
  | n + 1 => k0_pay6 (rowsV X n) (mxS X n)

/-- The scoped buffers the call does not use. -/
def rest0 (c : Dev nD) : sProp (MM F) :=
  iprop((∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f)
    ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f))

/-- Before point `n` the scratch holds the running values, at the first point anything. -/
def PhiS (X : Vec F S524288x16 .f32) (c : Dev nD) (n : ℕ) : sProp (MM F) :=
  iprop(∃ g0 g1, ⌜n ≠ 0 → g0 = mnS X n ∧ g1 = mxS X n⌝ ∗ owns (c : Thread nD τ) (Memref.whole cc0_scratch0) fullShare g0
    ∗ owns (c : Thread nD τ) (Memref.whole cc0_scratch1) fullShare g1 ∗ rest0 c)

theorem phi_in (X : Vec F S524288x16 .f32) (c : Dev nD) :
    (Pipeline.scopedRest (Ix := HIx 1) (Name := ℕ) (U := UU) (Lvl := ℕ) (Val := Elt F) spec0 c : sProp (MM F)) ⊢ PhiS X c 0 := by
  rw [scopedRest0_eq]; unfold PhiS rest0; simp only [owns_whole]
  iintro ⟨⟨%g0, H0⟩, ⟨%g1, H1⟩, Hr⟩
  iexists g0; iexists g1
  isplitr; · ipureintro; exact fun h => absurd rfl h
  isplitl [H0]; · iexact H0
  isplitl [H1]; · iexact H1
  iexact Hr

theorem phi_out (X : Vec F S524288x16 .f32) (c : Dev nD) (n : ℕ) :
    PhiS X c n ⊢ (Pipeline.scopedRest (Ix := HIx 1) (Name := ℕ) (U := UU) (Lvl := ℕ) (Val := Elt F) spec0 c : sProp (MM F)) := by
  rw [scopedRest0_eq]; unfold PhiS rest0; simp only [owns_whole]
  iintro ⟨%g0, %g1, -, H0, H1, Hr⟩
  isplitl [H0]; · iexists _; iexact H0
  isplitl [H1]; · iexists _; iexact H1
  iexact Hr

theorem first0_iff : ∀ t : Fin cfg0.N, first0 (grid0.coords t) ↔ t.val = 0 :=
  (fun t => by
    have ht : t.val < 128 := Nat.lt_of_lt_of_eq t.isLt N_0
    have e0 : (grid0.coords t 0).val = t.val / 1 % 128 := Pipeline.Grid.coords_val t 0 (by decide) rfl
    have e1 : t.val = 0 ↔ t.val % 128 = 0 := by omega
    rw [e1]
    simp only [first0, e0]
    word_cmp
   : ∀ t : Fin grid0.N, first0 (grid0.coords t) ↔ t.val = 0)

theorem last0_iff : ∀ t : Fin cfg0.N, last0 (grid0.coords t) ↔ t.val = 127 :=
  (fun t => by
    have ht : t.val < 128 := Nat.lt_of_lt_of_eq t.isLt N_0
    have e0 : (grid0.coords t 0).val = t.val / 1 % 128 := Pipeline.Grid.coords_val t 0 (by decide) rfl
    have e1 : t.val = 127 ↔ t.val % 128 = 127 := by omega
    rw [e1]
    simp only [last0, k0_cond2, e0]
    word_cmp
   : ∀ t : Fin grid0.N, last0 (grid0.coords t) ↔ t.val = 127)

theorem idle0_2 : ∀ t : Fin cfg0.N, ¬ last0 (grid0.coords t) → cfg0.idle 2 (grid0.coords t) = true := by decide +kernel
theorem live0_2 : ∀ t : Fin cfg0.N, last0 (grid0.coords t) → cfg0.idle 2 (grid0.coords t) = false := by decide +kernel
theorem keep0_2 : ∀ t : Fin cfg0.N, ¬ last0 (grid0.coords t) → (cfg0.win 2).flush t = false := by decide +kernel

section
variable (V : Vals F)

/-- Window `w`'s block of its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem index0_0 : ∀ t : Fin cfg0.N, win0_0.index t 0 = t.val ∧ win0_0.index t 1 = 0 := by decide +kernel

theorem blk0_0 (c : Dev nD) (t : Fin cfg0.N) : blk0 V c 0 t = rowsV (V c main_v0) t.val := by
  have ht : t.val < 128 := Nat.lt_of_lt_of_eq t.isLt N_0
  funext j
  show V c main_v0 (((cfg0.win 0).blk t).view.emb j) = V c main_v0 _
  congr 1
  obtain ⟨h0, h1⟩ := index0_0 t
  have hj : (j 0).val < 4096 := (j 0).isLt
  funext a; apply Fin.ext; fin_cases a
  · show win0_0.index t 0 * 4096 + 1 * (j 0).val = (t.val * 4096 + (j 0).val) % 524288
    rw [h0]; omega
  · show win0_0.index t 1 * 16 + 1 * (j 1).val = (j 1).val
    rw [h1]; omega

def dat0 (c : Dev nD) : Dat τ (Elt F) (HIx 1) ℕ UU ℕ cfg0 c where
  A w := V c (Pipeline.arrRef spec0 w)
  after w t := match w with
    | ⟨0, _⟩ => blk0 V c 0 t
    | ⟨1, _⟩ => k0_pay4 (blk0 V c 0 t)
    | ⟨2, _⟩ => mmV (mnS (V c main_v0) (t.val + 1)) (mxS (V c main_v0) (t.val + 1))
  Φ t := PhiS (V c main_v0) c t.val
  q _ := fullShare
  owed _ := (K (F := F)).Otc c 0
  recorded _ := below F c 0

theorem before0_0 (c : Dev nD) (t d) : (dat0 V c).before 0 t d = blk0 V c 0 t :=
  (dat0 V c).before_in_eq_fetched 0 rfl (fun _ => rfl) (fun _ _ _ => rfl) (fun t => by dsimp only [dat0]; rfl) t d

theorem row0 (t : Fin cfg0.N) : defs₀ (F := F) .tc cfg0.body (cfg0.bodyArgs t (cfg0.slots t)) = bodyAt0 t := rfl

theorem body0 (c : Dev nD) : BodyObligation (dat0 V c) (defs₀ (F := F)) 𝒱₀ none Set.univ := fun t => by
  rw [bigSep_W0, bigSep_W0, row0]
  have hN : t.val < 128 := Nat.lt_of_lt_of_eq t.isLt N_0
  have hf := first0_iff t
  have hl := last0_iff t
  unfold bodyAt0
  simp only [before0_0]
  rw [show (dat0 V c).Φ t.succ = PhiS (V c main_v0) c (t.val + 1) from rfl, show (dat0 V c).Φ t.castSucc = PhiS (V c main_v0) c t.val from rfl,
    show (dat0 V c).owesAt none t.succ = (dat0 V c).owesAt none t.castSucc from rfl]
  unfold PhiS
  iintro ⟨⟨%g0, %g1, %hg, HS0, HS1, Hr⟩, Ho, ⟨%d0, H0⟩, ⟨%d1, H1⟩, ⟨%d2, H2⟩⟩
  iapply (run0 c Set.univ (grid0.coords t) _ _ _ _ _ _ _ _ _ _ (blk0 V c 0 t) ((dat0 V c).before 2 t d2) g0 g1
    (mnS (V c main_v0) (t.val + 1)) (mxS (V c main_v0) (t.val + 1)) (fun h => by have := hf.mp h.1; have := hl.mp h.2; omega)
    (by
      rw [blk0_0]; by_cases h0 : t.val = 0
      · rw [if_pos (hf.mpr h0), h0]; rfl
      · rw [if_neg (fun h => h0 (hf.mp h)), (hg h0).1]; rfl)
    (by
      rw [blk0_0]; by_cases h0 : t.val = 0
      · rw [if_pos (hf.mpr h0), h0]; rfl
      · rw [if_neg (fun h => h0 (hf.mp h)), (hg h0).2]; rfl) _)
  isplitl [H0]; · iexact H0
  isplitl [H1]; · iexists _; iexact H1
  isplitl [H2]; · iexact H2
  isplitl [HS0]; · iexact HS0
  isplitl [HS1]; · iexact HS1
  iintro ⟨H0, H1, H2, HS0, HS1⟩
  isplitl [HS0 HS1 Hr]
  · iexists _; iexists _
    isplitr; swap
    · isplitl [HS0]; · iexact HS0
      isplitl [HS1]; · iexact HS1
      iexact Hr
    ipureintro; exact fun _ => ⟨rfl, rfl⟩
  isplitl [Ho]; · iexact Ho
  isplitl [H0]; · iexact H0
  isplitl [H1]; · iexact H1
  by_cases h1 : last0 (grid0.coords t)
  · rw [show idle0 2 (grid0.coords t) = false from live0_2 t h1, if_pos h1]
    iexact H2
  · rw [show idle0 2 (grid0.coords t) = true from idle0_2 t h1, show (win0 2).flush t = false from keep0_2 t h1, if_neg h1]
    iexists _; iexact H2

/-! ## What the call leaves -/

/-- The input transposed. -/
def xtV (X : Vec F S524288x16 .f32) : Vec F S16x524288 .f32 := fun j => X (ix2 (j 1) (j 0))

theorem index0_1 : ∀ t : Fin cfg0.N, win0_1.index t 0 = 0 ∧ win0_1.index t 1 = t.val := by decide +kernel
theorem index0_2 : ∀ t : Fin cfg0.N, win0_2.index t 0 = 0 ∧ win0_2.index t 1 = 0 := by decide +kernel

theorem pay4_apply (x : Vec F S4096x16 .f32) (a : Fin 16) (b : Fin 4096) : k0_pay4 x (ix2 a b) = x (ix2 b a) := by
  unfold k0_pay4 k0_pay3
  dsimp only
  rw [shapeCast_self]
  exact transpose_ix2_apply x _ a b

theorem arr0_1 (c : Dev nD) : (dat0 V c).arrAt 1 cfg0.N = (xtV (V c main_v0) : Buf (Elt F) ((c : Thread nD τ).loc main_v1_0)) := by
  funext j
  have hj0 : (j 0).val < 16 := (j 0).isLt
  have hj1 : (j 1).val < 524288 := (j 1).isLt
  let t : Fin cfg0.N := ⟨(j 1).val / 4096, by rw [show cfg0.N = 128 from N_0]; omega⟩
  let k : S16x4096.Idx := ix2 (j 0) ⟨(j 1).val % 4096, Nat.mod_lt _ (by decide)⟩
  have hb := (dat0 V c).read_blk_arrAt_eq_flushed 1 ((cfg0.win 1).hdisj_of_index_inj fun t t' _ _ e => Fin.ext (by
    rw [← (index0_1 t).2, ← (index0_1 t').2]; exact congrFun e 1)) cfg0.N t t.isLt (flush0_1 t)
  have hj := congrFun hb k
  have hemb : ((cfg0.win 1).blk t).view.emb k = j := by
    obtain ⟨h0, h1⟩ := index0_1 t
    funext a; apply Fin.ext; fin_cases a
    · show win0_1.index t 0 * 16 + 1 * (j 0).val = (j 0).val
      rw [h0]; omega
    · show win0_1.index t 1 * 4096 + 1 * ((j 1).val % 4096) = (j 1).val
      rw [h1]; show (j 1).val / 4096 * 4096 + _ = _; omega
  have e : (dat0 V c).arrAt 1 cfg0.N (((cfg0.win 1).blk t).view.emb k) = (dat0 V c).after 1 t k := hj
  rw [hemb] at e
  rw [e, show (dat0 V c).after 1 t = k0_pay4 (blk0 V c 0 t) from by dsimp only [dat0], blk0_0]
  rw [show k0_pay4 (rowsV (V c main_v0) t.val) k = _ from pay4_apply _ _ _]
  unfold rowsV xtV
  congr 1
  funext a; apply Fin.ext; fin_cases a
  · show ((j 1).val / 4096 * 4096 + (j 1).val % 4096) % 524288 = (j 1).val; omega
  · rfl

theorem arr0_2 (c : Dev nD) : (dat0 V c).arrAt 2 cfg0.N = (mmV (mnS (V c main_v0) 128) (mxS (V c main_v0) 128) : Buf (Elt F) ((c : Thread nD τ).loc main_v1_1)) := by
  funext j
  let t : Fin cfg0.N := ⟨127, by rw [show cfg0.N = 128 from N_0]; omega⟩
  have hb := (dat0 V c).read_blk_arrAt_eq_flushed 2 (fun t t' h h' hne => by
    have := (flush0_2 t).mp h; have := (flush0_2 t').mp h'
    have h1 : t.val < 128 := Nat.lt_of_lt_of_eq t.isLt N_0
    have h2 : t'.val < 128 := Nat.lt_of_lt_of_eq t'.isLt N_0
    exact absurd (Fin.ext (by omega)) hne) cfg0.N t t.isLt ((flush0_2 t).mpr rfl)
  have hj := congrFun hb j
  have hemb : ((cfg0.win 2).blk t).view.emb j = j := by
    obtain ⟨h0, h1⟩ := index0_2 t
    funext a; apply Fin.ext; fin_cases a
    · show win0_2.index t 0 * 2 + 1 * (j 0).val = (j 0).val
      rw [h0]; omega
    · show win0_2.index t 1 * 16 + 1 * (j 1).val = (j 1).val
      rw [h1]; omega
  have e : (dat0 V c).arrAt 2 cfg0.N (((cfg0.win 2).blk t).view.emb j) = (dat0 V c).after 2 t j := hj
  rw [hemb] at e
  rw [e, show (dat0 V c).after 2 t = mmV (mnS (V c main_v0) (t.val + 1)) (mxS (V c main_v0) (t.val + 1)) from by dsimp only [dat0]]

end

end Cert.Proof

end

end
-- ==== Proof.Regions.lean ====
/-
  The two TensorCore calls as steps of @main: from every unscoped buffer at a valuation, the core's due handshakes, and the
  call's own staging cells, to the same buffers with the call's results written.
-/
module

public import proofs.«01_k».proof.Proof.Region0
public import Idealize.ShloMosaic.Lib.Pipeline.RegionsLoop

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

instance EP_landsIn : (EP : Emb UP (MM F)).LandsIn (upEmb : UEmb _ (MM F)) := by unfold EP; infer_instance

/-- No call reads a table ahead of its grid. -/
abbrev adm : (p : Fin 2) → (pcfgs (F := F) p).Adm := fun p => (cfgs p).toPCfg_adm

/-- The calls' proof data, the second's at its own valuation. -/
def pdats (V : Vals F) : (p : Fin 2) → (c : Dev nD) → Dat τ (Elt F) (HIx 1) ℕ UU ℕ (Pipeline.pin (pcfgs (F := F)) adm p) c
  | ⟨0, _⟩ => fun c => dat0 V c
  | ⟨1, _⟩ => fun c => dat2 V c

/-- The core's dues between calls `n - 1` and `n` of the SparseCores. -/
def dues (c : Dev nD) (n : ℕ) : sProp (MM F) := iprop(∃ W, ⌜(K (F := F)).WBelow (T c) W (8 * n)⌝ ∗ owes (c : Thread nD τ) ((K (F := F)).Otc c n) W)

theorem dues_in {cfg : Cfg sig Λ₀} {c : Dev nD} (dat : Dat τ (Elt F) (HIx 1) ℕ UU ℕ cfg c) (n : ℕ) (t : Fin (cfg.N + 1)) (ho : dat.owed t = (K (F := F)).Otc c n)
    (hr : dat.recorded t = below F c n) : dues c n ⊢ dat.owesAt none t := by
  unfold dues Dat.owesAt Pipeline.owesWithin Dat.bound
  rw [ho, hr]
  iintro ⟨%W, %hW, HO⟩
  iexists W; isplitr; · ipureintro; exact fun p hp => Or.inl (hW p hp)
  iexact HO

theorem dues_out {cfg : Cfg sig Λ₀} {c : Dev nD} (dat : Dat τ (Elt F) (HIx 1) ℕ UU ℕ cfg c) (n : ℕ) (t : Fin (cfg.N + 1)) (ho : dat.owed t = (K (F := F)).Otc c n)
    (hr : dat.recorded t = below F c n) : dat.owesAt none t ⊢ dues c n := by
  unfold dues Dat.owesAt Pipeline.owesWithin Dat.bound
  rw [ho, hr]
  iintro ⟨%W, %hW, HO⟩
  iexists W; isplitr
  · ipureintro; intro p hp
    rcases hW hp with h | ⟨w, s, rfl⟩
    · exact h
    · exact Nat.zero_le _
  iexact HO

section
variable (V Vp : Vals F)

set_option backward.isDefEq.respectTransparency.types false in
/-- The first call. -/
def reg0 (h1 : ∀ c, Vp c main_v1_0 = xtV (V c main_v0)) (h2 : ∀ c, Vp c main_v1_1 = mmV (mnS (V c main_v0) 128) (mxS (V c main_v0) 128))
    (hne : ∀ c (b : Ref sig .tc), b ≠ main_v1_0 → b ≠ main_v1_1 → Vp c b = V c b) :
    Pipeline.RegionSeg (pcfgs (F := F)) adm (pdats V) (none : HIx 1) defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body0 V c).loose
  hwaits c := Pipeline.cellsWaits_of_cut (Pipeline.pin pcfgs adm) (pdats V) none 0 c 0 ((K (F := F)).Otc c 0) (fun _ => rfl)
    (fun _ _ => Finset.mem_univ _) (fun _ _ => Nat.le_refl _) (fun g i h => ⟨Finset.mem_univ _, Nat.lt_of_lt_of_le (Nat.succ_pos _) ((K (F := F)).lev_of_Otc_pos h)⟩)
  pre c := iprop(unscopedBufs c (V c) ∗ dues c 0)
  post c := iprop(unscopedBufs c (Vp c) ∗ dues c 0)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) (launch0).win (launch0).arr_whole c
      ((pdats V 0 c).share_full fun _ => rfl) (V c) fun _ => rfl
    have ho := dues_in (pdats V 0 c) 0 0 rfl rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ho; iexact HO
    isplitr; · iempintro
    iexact Hrest
  hin c := by
    rw [show (pdats V 0 c).Φ 0 = PhiS (V c main_v0) c 0 from rfl]
    iintro ⟨-, -, Hr⟩; iapply (phi_in (V c main_v0) c); iexact Hr
  hout c := by
    rw [Pipeline.ownSems0_none, show (pdats V 0 c).Φ (Fin.last _) = PhiS (V c main_v0) c cfg0.N from rfl]
    iintro Hr
    isplitr; · iempintro
    isplitr; · iempintro
    iapply (phi_out (V c main_v0) c cfg0.N); iexact Hr
  hexit c := by
    have hjoin := Pipeline.unscopedBufs_of_arrays (p := 0) (pcfgs (F := F)) adm (Ix := HIx 1) (Name := ℕ) (U := UU) (Lvl := ℕ) (launch0).win (launch0).arr_whole c
      (pdats V) ((pdats V 0 c).share_full fun _ => rfl) (V c) (Vp c) ((pdats V 0 c).arrAt · cfg0.N)
      (fun w => by
        fin_cases w
        · exact ((pdats V 0 c).arrAt_in 0 rfl _).trans (hne c main_v0 (by decide) (by decide)).symm
        · exact (arr0_1 V c).trans (h1 c).symm
        · exact (arr0_2 V c).trans (h2 c).symm)
      (fun b hb => hne c b (fun h => hb (h ▸ Finset.mem_image.mpr ⟨1, Finset.mem_univ _, rfl⟩)) (fun h => hb (h ▸ Finset.mem_image.mpr ⟨2, Finset.mem_univ _, rfl⟩)))
    have ho := dues_out (pdats V 0 c) 0 (Fin.last _) rfl rfl
    iintro ⟨Ha, HO, -, Hrest⟩
    imodintro
    isplitl [Ha Hrest]
    · iapply hjoin; isplitl [Ha] <;> iassumption
    iapply ho; iexact HO

set_option backward.isDefEq.respectTransparency.types false in
/-- The last call. -/
def reg2 (h1 : ∀ c, Vp c main_v5 = out2 V c) (hne : ∀ c (b : Ref sig .tc), b ≠ main_v5 → Vp c b = V c b) :
    Pipeline.RegionSeg (pcfgs (F := F)) adm (pdats V) (none : HIx 1) defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := (body2 V c).loose
  hwaits c := Pipeline.cellsWaits_of_cut (Pipeline.pin pcfgs adm) (pdats V) none 1 c 0 ((K (F := F)).Otc c 1) (fun _ => rfl)
    (fun _ _ => Finset.mem_univ _) (fun _ _ => Nat.le_refl _) (fun g i h => ⟨Finset.mem_univ _, Nat.lt_of_lt_of_le (Nat.succ_pos _) ((K (F := F)).lev_of_Otc_pos h)⟩)
  pre c := iprop(unscopedBufs c (V c) ∗ dues c 1)
  post c := iprop(unscopedBufs c (Vp c) ∗ dues c 1)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats V) (launch2).win (launch2).arr_whole c
      ((pdats V 1 c).share_full fun _ => rfl) (V c) fun _ => rfl
    have ho := dues_in (pdats V 1 c) 1 0 rfl rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ho; iexact HO
    isplitr; · iempintro
    iexact Hrest
  hin c := by
    rw [show (pdats V 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats V 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) (launch2).win (launch2).arr_whole c
      (pdats V) ((pdats V 1 c).share_full fun _ => rfl) (V c) (Vp c) ((pdats V 1 c).arrAt · cfg2.N)
      (fun w => by
        fin_cases w
        · exact ((pdats V 1 c).arrAt_in 0 rfl _).trans (hne c main_v4 (by decide)).symm
        · exact ((pdats V 1 c).arrAt_in 1 rfl _).trans (hne c main_cst (by decide)).symm
        · exact ((pdats V 1 c).arrAt_in 2 rfl _).trans (hne c main_cst_0 (by decide)).symm
        · exact ((pdats V 1 c).arrAt_in 3 rfl _).trans (hne c main_cst_1 (by decide)).symm
        · exact ((pdats V 1 c).arrAt_in 4 rfl _).trans (hne c main_cst_2 (by decide)).symm
        · exact ((pdats V 1 c).arrAt_in 5 rfl _).trans (hne c main_cst_3 (by decide)).symm
        · exact ((pdats V 1 c).arrAt_in 6 rfl _).trans (hne c main_cst_4 (by decide)).symm
        · exact (arr2_7 V c).trans (h1 c).symm)
      (fun b hb => hne c b (fun h => hb (h ▸ Finset.mem_image.mpr ⟨7, Finset.mem_univ _, rfl⟩)))
    have ho := dues_out (pdats V 1 c) 1 (Fin.last _) rfl rfl
    iintro ⟨Ha, HO, -, Hrest⟩
    imodintro
    isplitl [Ha Hrest]
    · iapply hjoin; isplitl [Ha] <;> iassumption
    iapply ho; iexact HO

end

/-- The staging cells are distinct. -/
theorem cells_inj : Function.Injective (cellOf (nD := nD) (τ := τ) (Pipeline.pin (pcfgs (F := F)) adm)) := cellOf_inj

/-- What a call's staging cells start from. -/
def ghosts (p : Fin 2) (c : Dev nD) : sProp (MM F) :=
  iprop(Pipeline.cellsGhost (Pipeline.pin (pcfgs (F := F)) adm) EP p c ∗ Pipeline.toksInit (Pipeline.pin (pcfgs (F := F)) adm) EP p c)

/-- A call entered from @main. -/
theorem wp_seg {V : Vals F} {p : Fin 2} (R : Pipeline.RegionSeg (pcfgs (F := F)) adm (pdats V) (none : HIx 1) defs₀ 𝒱₀ (K (F := F)).L (K (F := F)).lev p)
    (c : Dev nD) (Φ : PUnit → sProp (MM F)) :
    iprop((iprop(boundary (c.tc : Thread nD τ) ∗ R.post c) -∗ Φ ⟨⟩) ∗ boundary (c.tc : Thread nD τ) ∗ R.pre c ∗ levAts (K (F := F)).L (K (F := F)).lev ∗ ghosts p c)
      ⊢ wp frame (wpE ((K (F := F)).defs D) 𝒱 (T c) none) Set.univ (Prog.lift (.customCall (SparseCore.inner (Pipeline.entry p)) ())) Φ := by
  refine BI.BIBase.Entails.trans ?_ ((K (F := F)).wp_liftProg D 𝒱 (T c) Set.univ none (Prog.lift (.customCall (Pipeline.entry p) ())) Φ)
  refine BI.BIBase.Entails.trans ?_ (Pipeline.RegionSeg.wp pcfgs adm (pdats V) none cells_inj EP defs₀ 𝒱₀ (K (F := F)).L (K (F := F)).lev R c none (fun _ h => nomatch h) .ret Φ)
  unfold ghosts
  iintro ⟨Hk, Hb, Hp, Hl, Hg, Ht⟩
  isplitl [Hk]
  · iintro H; sl_step; iapply Hk; iexact H
  isplitl [Hb]; · iexact Hb
  isplitl [Hp]; · iexact Hp
  isplitl [Hl]; · iexact Hl
  isplitl [Hg]; · iexact Hg
  iexact Ht

end Cert.Proof

end

end
-- ==== Proof.Main.lean ====
/-
  @main on the TensorCore: the host operations, the first call, the SparseCores' call and the last call in turn, each
  taking the device's buffers from one valuation to the next; and the program's run from it.
-/
module

public import proofs.«01_k».proof.Proof.Call
public import proofs.«01_k».proof.Proof.Regions

@[expose] public section

noncomputable section

namespace Cert.Proof

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)
open Idealize.ShloMosaic.Pipeline (ucRefs)

variable {F : FTy → Type} [FloatOps F]

/-! ## The valuations -/

/-- A device's buffers. -/
abbrev Wal (F : FTy → Type) : Type := Valuation τ sig (Elt F)

/-- A TensorCore reference as a device's buffer. -/
abbrev bf (r : Ref sig .tc) : DevRef τ sig := Proc.devRef .tc r

/-- `W` with one buffer replaced. -/
def put (W : Wal F) (r : Ref sig .tc) (v : r.ty.Contents (Elt F)) : Wal F := Function.update W (bf r) v

omit [FloatOps F] in
theorem put_same (W : Wal F) (r : Ref sig .tc) (v : r.ty.Contents (Elt F)) : put W r v (bf r) = v := Function.update_self ..
omit [FloatOps F] in
theorem put_ne (W : Wal F) (r s : Ref sig .tc) (v : r.ty.Contents (Elt F)) (h : s ≠ r) : put W r v (bf s) = W (bf s) :=
  Function.update_of_ne (StableHlo.devRef_ne_of_ne h) ..
omit [FloatOps F] in
theorem put_off (W : Wal F) (r : Ref sig .tc) (v : r.ty.Contents (Elt F)) (b : DevRef τ sig) (h : b ≠ bf r) : put W r v b = W b :=
  Function.update_of_ne h ..

/-- The six tables and the samples as rows. -/
def opsA : List (HloOp τ sig (Elt F)) :=
  [StableHlo.nullary main_cst (fun i => FloatOps.ofBits .f32 (lit0 (S400x20.rowMajor i))),
   StableHlo.nullary main_cst_0 (fun i => FloatOps.ofBits .f32 (lit1 (S20x400.rowMajor i))),
   StableHlo.nullary main_cst_1 (fun i => FloatOps.ofBits .f32 (lit2 (S400x20.rowMajor i))),
   StableHlo.nullary main_cst_2 (fun i => FloatOps.ofBits .f32 (lit3 (S20x400.rowMajor i))),
   StableHlo.nullary main_cst_3 (fun i => FloatOps.ofBits .f32 (lit4 (S120x16.rowMajor i))),
   StableHlo.nullary main_cst_4 (fun i => FloatOps.ofBits .f32 (lit5 (S120x16.rowMajor i))),
   StableHlo.reshape main_arg0 main_v0 (rfl : (.f32 : EltTy) = .f32) shapeCasts_S8x65536x16_S524288x16]
/-- The zeros the tiles start their counts from. -/
def opsB : List (HloOp τ sig (Elt F)) :=
  [StableHlo.nullary main_cst_5 (constant S_ .f32 0x00000000#32),
   StableHlo.unary main_cst_5 main_v2 (broadcastInDim S48000 ![] bcast_S_S48000 : (⟨S_, .f32⟩ : BufTy).Contents (Elt F) → (⟨S48000, .f32⟩ : BufTy).Contents (Elt F))]
/-- The counts by pair. -/
def opsC : List (HloOp τ sig (Elt F)) :=
  [StableHlo.reshape main_v3 main_v4 (rfl : (.f32 : EltTy) = .f32) shapeCasts_S32x48000_S32x120x400]
/-- The result for each batch. -/
def opsD : List (HloOp τ sig (Elt F)) :=
  [StableHlo.unary main_v5 main_v6 (broadcastInDim S1x16x16 ![1, 2] bcast_S16x16_S1x16x16_1_2 : (⟨S16x16, .f32⟩ : BufTy).Contents (Elt F) → (⟨S1x16x16, .f32⟩ : BufTy).Contents (Elt F)),
   StableHlo.unary main_v6 main_v7 (broadcastInDim S8x16x16 ![0, 1, 2] bcast_S1x16x16_S8x16x16_0_1_2 : (⟨S1x16x16, .f32⟩ : BufTy).Contents (Elt F) → (⟨S8x16x16, .f32⟩ : BufTy).Contents (Elt F))]

variable (m : (ℓ : Loc nD τ sig) → Buf (Elt F) ℓ)

def w0 (d : Dev nD) : Wal F := fun b => m (d, b)
def w1 (d : Dev nD) : Wal F := after opsA (w0 m d)
/-- After the first call. -/
def w2 (d : Dev nD) : Wal F :=
  put (put (w1 m d) main_v1_0 (xtV (w1 m d (bf main_v0)))) main_v1_1 (mmV (mnS (w1 m d (bf main_v0)) 128) (mxS (w1 m d (bf main_v0)) 128))
def w3 (d : Dev nD) : Wal F := after opsB (w2 m d)
/-- After the SparseCores' call. -/
def w4 (d : Dev nD) : Wal F := put (w3 m d) main_v3 (histBuf (w3 m d (bf main_v1_0)) (w3 m d (bf main_v1_1)) (w3 m d (bf main_v2)))
def w5 (d : Dev nD) : Wal F := after opsC (w4 m d)
/-- A device's buffers as the last two regions' data read them. -/
def vals (W : Dev nD → Wal F) : Vals F := fun c b => W c (bf b)
/-- After the last call. -/
def w6 (d : Dev nD) : Wal F := put (w5 m d) main_v5 (out2 (vals (w5 m)) d)
def w7 (d : Dev nD) : Wal F := after opsD (w6 m d)

/-! ## The four arrays the SparseCores take -/

/-- The arrays of the SparseCores' call. -/
def four : Finset (DevRef τ sig) := {bf main_v1_0, bf main_v1_1, bf main_v2, bf main_v3}

theorem four_sub : four ⊆ ucRefs τ sig := by decide

omit [FloatOps F] in
theorem held_four (d : Dev nD) (W : Wal F) :
    (held (d.tc : Thread nD τ) four W : sProp (MM F)) = wholeP d (W (bf main_v1_0)) (W (bf main_v1_1)) (W (bf main_v2)) (W (bf main_v3)) := by
  unfold held four wholeP
  rw [SparseCore.bigSep_insert' (by decide), SparseCore.bigSep_insert' (by decide), SparseCore.bigSep_insert' (by decide), bigSep_singleton]

/-- What the SparseCores leave, as the buffers' next valuation. -/
theorem held_w4 (d : Dev nD) :
    iprop(wholeP d (w3 m d (bf main_v1_0)) (w3 m d (bf main_v1_1)) (w3 m d (bf main_v2)) (histBuf (w3 m d (bf main_v1_0)) (w3 m d (bf main_v1_1)) (w3 m d (bf main_v2)))
        ∗ held (d.tc : Thread nD τ) (ucRefs τ sig \ four) (w3 m d))
      = (held (d.tc : Thread nD τ) (ucRefs τ sig) (w4 m d) : sProp (MM F)) := by
  rw [StableHlo.held_sub_split (d.tc : Thread nD τ) four_sub (w4 m d), held_four]
  unfold w4
  rw [put_same, put_ne _ _ _ _ (by decide), put_ne _ _ _ _ (by decide), put_ne _ _ _ _ (by decide)]
  refine congrArg _ (StableHlo.held_congr _ fun b hb => ?_)
  refine (put_off _ _ _ _ fun h => (Finset.mem_sdiff.mp hb).2 ?_).symm
  rw [h]; decide

/-! ## @main -/

/-- The SparseCores' payloads at the arrays @main hands over. -/
abbrev PP : (K (F := F)).Pay (nD := nD) (Val := Elt F) (Name := ℕ) (U := UU) :=
  P (fun d => w3 m d (bf main_v1_0)) (fun d => w3 m d (bf main_v1_1)) (fun d => w3 m d (bf main_v2)) (fun d => w3 m d (bf main_v3))

variable (ρ : Dev nD → PrngReg)

/-- What @main holds when it returns: every unscoped buffer. -/
abbrev FIN (d : Dev nD) : sProp (MM F) := held (d.tc : Thread nD τ) (ucRefs τ sig) (w7 m d)

theorem subA : ∀ op ∈ opsA (F := F), op.bufs ⊆ ucRefs τ sig := by
  intro op h
  simp only [opsA, List.mem_cons, List.not_mem_nil, or_false] at h
  rcases h with rfl | rfl | rfl | rfl | rfl | rfl | rfl <;> exact Pipeline.sub_ucRefs _ (by simp)
theorem subB : ∀ op ∈ opsB (F := F), op.bufs ⊆ ucRefs τ sig := by
  intro op h
  simp only [opsB, List.mem_cons, List.not_mem_nil, or_false] at h
  rcases h with rfl | rfl <;> exact Pipeline.sub_ucRefs _ (by simp)
theorem subC : ∀ op ∈ opsC (F := F), op.bufs ⊆ ucRefs τ sig := by
  intro op h
  simp only [opsC, List.mem_cons, List.not_mem_nil, or_false] at h
  rcases h with rfl; exact Pipeline.sub_ucRefs _ (by simp)
theorem subD : ∀ op ∈ opsD (F := F), op.bufs ⊆ ucRefs τ sig := by
  intro op h
  simp only [opsD, List.mem_cons, List.not_mem_nil, or_false] at h
  rcases h with rfl | rfl <;> exact Pipeline.sub_ucRefs _ (by simp)
theorem freshA : ∀ op ∈ opsA (F := F), op.fresh = ∅ := by
  intro op h
  simp only [opsA, List.mem_cons, List.not_mem_nil, or_false] at h
  rcases h with rfl | rfl | rfl | rfl | rfl | rfl | rfl <;> rfl
theorem freshB : ∀ op ∈ opsB (F := F), op.fresh = ∅ := by
  intro op h
  simp only [opsB, List.mem_cons, List.not_mem_nil, or_false] at h
  rcases h with rfl | rfl <;> rfl
theorem freshC : ∀ op ∈ opsC (F := F), op.fresh = ∅ := by
  intro op h
  simp only [opsC, List.mem_cons, List.not_mem_nil, or_false] at h
  rcases h with rfl; rfl
theorem freshD : ∀ op ∈ opsD (F := F), op.fresh = ∅ := by
  intro op h
  simp only [opsD, List.mem_cons, List.not_mem_nil, or_false] at h
  rcases h with rfl | rfl <;> rfl

/-- @main as its four lines of host operations and the calls between them. -/
theorem main_eq (d : Dev nD) : main (F := F) d = (StableHlo.seq opsA >>= fun _ => Prog.lift (.customCall (SparseCore.inner (Pipeline.entry 0)) ()) >>= fun _ =>
    StableHlo.seq opsB >>= fun _ => (K (F := F)).run d 0 >>= fun _ =>
    StableHlo.seq opsC >>= fun _ => Prog.lift (.customCall (SparseCore.inner (Pipeline.entry 1)) ()) >>= fun _ =>
    StableHlo.seq opsD >>= fun _ => pure ⟨⟩) := by
  simp only [main, opsA, opsB, opsC, opsD, StableHlo.seq, bind_assoc, pure_bind]

def reg0m : Pipeline.RegionSeg (pcfgs (F := F)) adm (pdats (vals (w1 m))) (none : HIx 1) defs₀ 𝒱₀ (K (F := F)).L (K (F := F)).lev 0 :=
  reg0 (vals (w1 m)) (vals (w2 m))
    (fun c => by unfold vals w2; rw [put_ne _ _ _ _ (by decide), put_same])
    (fun c => by unfold vals w2; rw [put_same])
    (fun c b h1 h2 => by unfold vals w2; rw [put_ne _ _ _ _ h2, put_ne _ _ _ _ h1])

def reg2m : Pipeline.RegionSeg (pcfgs (F := F)) adm (pdats (vals (w5 m))) (none : HIx 1) defs₀ 𝒱₀ (K (F := F)).L (K (F := F)).lev 1 :=
  reg2 (vals (w5 m)) (vals (w6 m))
    (fun c => by unfold vals w6; rw [put_same]; rfl)
    (fun c b h => by unfold vals w6; rw [put_ne _ _ _ _ h])

theorem wp_first (d : Dev nD) (Φ : PUnit → sProp (MM F)) :
    iprop((iprop(boundary (d.tc : Thread nD τ) ∗ held (d.tc : Thread nD τ) (ucRefs τ sig) (w2 m d) ∗ dues d 0) -∗ Φ ⟨⟩)
        ∗ boundary (d.tc : Thread nD τ) ∗ (held (d.tc : Thread nD τ) (ucRefs τ sig) (w1 m d) ∗ dues d 0) ∗ levAts (K (F := F)).L (K (F := F)).lev ∗ ghosts 0 d)
      ⊢ wp frame (wpE ((K (F := F)).defs D) 𝒱 (T d) none) Set.univ (Prog.lift (.customCall (SparseCore.inner (Pipeline.entry 0)) ())) Φ := by
  have h := wp_seg (reg0m m) d Φ
  rw [show (reg0m m).pre d = iprop(held (d.tc : Thread nD τ) (ucRefs τ sig) (w1 m d) ∗ dues d 0) from
      congrArg (fun A : sProp (MM F) => iprop(A ∗ dues d 0)) (Pipeline.unscopedBufs_held d (w1 m d)),
    show (reg0m m).post d = iprop(held (d.tc : Thread nD τ) (ucRefs τ sig) (w2 m d) ∗ dues d 0) from
      congrArg (fun A : sProp (MM F) => iprop(A ∗ dues d 0)) (Pipeline.unscopedBufs_held d (w2 m d))] at h
  exact h

theorem wp_last (d : Dev nD) (Φ : PUnit → sProp (MM F)) :
    iprop((iprop(boundary (d.tc : Thread nD τ) ∗ held (d.tc : Thread nD τ) (ucRefs τ sig) (w6 m d) ∗ dues d 1) -∗ Φ ⟨⟩)
        ∗ boundary (d.tc : Thread nD τ) ∗ (held (d.tc : Thread nD τ) (ucRefs τ sig) (w5 m d) ∗ dues d 1) ∗ levAts (K (F := F)).L (K (F := F)).lev ∗ ghosts 1 d)
      ⊢ wp frame (wpE ((K (F := F)).defs D) 𝒱 (T d) none) Set.univ (Prog.lift (.customCall (SparseCore.inner (Pipeline.entry 1)) ())) Φ := by
  have h := wp_seg (reg2m m) d Φ
  rw [show (reg2m m).pre d = iprop(held (d.tc : Thread nD τ) (ucRefs τ sig) (w5 m d) ∗ dues d 1) from
      congrArg (fun A : sProp (MM F) => iprop(A ∗ dues d 1)) (Pipeline.unscopedBufs_held d (w5 m d)),
    show (reg2m m).post d = iprop(held (d.tc : Thread nD τ) (ucRefs τ sig) (w6 m d) ∗ dues d 1) from
      congrArg (fun A : sProp (MM F) => iprop(A ∗ dues d 1)) (Pipeline.unscopedBufs_held d (w6 m d))] at h
  exact h

/-- The SparseCores' call, from the buffers to the buffers. -/
theorem wp_tiles (κ : GSem nD τ sig → ℕ) (d : Dev nD) (Φ : PUnit → sProp (MM F)) :
    iprop((K (F := F)).ctx EH (PP m) κ (K (F := F)).lev ∗ (K (F := F)).tcSt EH d 0 ∗ held (d.tc : Thread nD τ) (ucRefs τ sig) (w3 m d)
        ∗ (((K (F := F)).tcSt EH d 1 ∗ held (d.tc : Thread nD τ) (ucRefs τ sig) (w4 m d)) -∗ Φ ⟨⟩))
      ⊢ wp frame (wpE ((K (F := F)).defs D) 𝒱 (T d) none) Set.univ ((K (F := F)).run d 0) Φ := by
  rw [StableHlo.held_sub_split (d.tc : Thread nD τ) four_sub (w3 m d), held_four]
  iintro ⟨Hctx, Hst, ⟨Hw, Hr⟩, Hk⟩
  ihave Hw := (deal d _ _ _ _) $$ Hw
  icases Hw with ⟨Hrest, Hp⟩
  iapply ((K (F := F)).wp_run D 𝒱 (EH := EH) (P := PP m) κ d 0) $$ [Hctx Hst Hp Hrest Hr Hk]
  isplitl [Hctx]; · iexact Hctx
  isplitl [Hst]; · iexact Hst
  isplitl [Hp]; · rw [st0_eq]; iexact Hp
  iintro ⟨Hst, Hdn⟩
  iapply Hk
  isplitl [Hst]; · iexact Hst
  ihave Hdn := (Entails.of_eq (dn0_eq _ _ _ _ d)) $$ Hdn
  rw [← held_w4]
  isplitr [Hr]
  · iapply (gather d _ _ _ _)
    isplitl [Hrest]; · iexact Hrest
    iexact Hdn
  iexact Hr

theorem tcSt_dues (d : Dev nD) (n : ℕ) :
    ∃ R : sProp (MM F), (K (F := F)).tcSt EH d n = iprop(dues d n ∗ R) := ⟨_, rfl⟩

omit [FloatOps F] in
theorem held_start (d : Dev nD) : (held (d.tc : Thread nD τ) (ucRefs τ sig) (w0 m d) : sProp (MM F)) = unscopedBufs d (fun b => m ((SparseCore.T d : Thread nD τ).loc b)) := by
  rw [← Pipeline.unscopedBufs_held (Val := Elt F) d (w0 m d)]
  unfold w0
  rfl

/-- @main on device `d`'s TensorCore. -/
theorem hmain (κ : GSem nD τ sig → ℕ) (d : Dev nD) :
    iprop((K (F := F)).ctx EH (PP m) κ (K (F := F)).lev ∗ (K (F := F)).tcSt EH d 0 ∗ (K (F := F)).tcRes m ρ d ∗ (ghosts 0 d ∗ ghosts 1 d))
      ⊢ wp frame (wpE ((K (F := F)).defs D) 𝒱 (T d) none) Set.univ (main d)
          fun _ => iprop((K (F := F)).tcSt EH d 1 ∗ FIN m d ∗ (K (F := F)).tcEnd d) := by
  obtain ⟨R0, hR0⟩ := tcSt_dues (F := F) d 0
  obtain ⟨R1, hR1⟩ := tcSt_dues (F := F) d 1
  unfold SparseCore.Cfg.tcRes SparseCore.Cfg.tcEnd
  rw [← held_start]
  rw [main_eq, hR0]
  iintro ⟨#Hctx, ⟨Hd, HR⟩, ⟨Hb, HV, Hts, -⟩, Hg0, Hg1⟩
  ihave #Hlev := ((K (F := F)).ctx_levAts κ) $$ Hctx
  iapply (StableHlo.wp_seq 𝒱 none Set.univ d (ucRefs τ sig) _ opsA subA freshA (w0 m d)) $$ [Hb HV]
  · isplitl [Hb]; · iexact Hb
    iexact HV
  iintro ⟨Hb, HV⟩
  rw [wp_bind]
  iapply (wp_first m d)
  isplitr [Hb HV Hd Hg0]
  swap
  · isplitl [Hb]; · iexact Hb
    isplitl [HV Hd]
    · isplitl [HV]; · iexact HV
      iexact Hd
    isplitr; · iexact Hlev
    iexact Hg0
  iintro ⟨Hb, HV, Hd⟩
  iapply (StableHlo.wp_seq 𝒱 none Set.univ d (ucRefs τ sig) _ opsB subB freshB (w2 m d)) $$ [Hb HV]
  · isplitl [Hb]; · iexact Hb
    iexact HV
  iintro ⟨Hb, HV⟩
  rw [wp_bind]
  iapply (wp_tiles m κ d)
  isplitr; · iexact Hctx
  isplitl [HR Hd]
  · rw [hR0]; isplitl [Hd]; · iexact Hd
    iexact HR
  isplitl [HV]; · iexact HV
  rw [hR1]
  iintro ⟨⟨Hd, HR⟩, HV⟩
  iapply (StableHlo.wp_seq 𝒱 none Set.univ d (ucRefs τ sig) _ opsC subC freshC (w4 m d)) $$ [Hb HV]
  · isplitl [Hb]; · iexact Hb
    iexact HV
  iintro ⟨Hb, HV⟩
  rw [wp_bind]
  iapply (wp_last m d)
  isplitr [Hb HV Hd Hg1]
  swap
  · isplitl [Hb]; · iexact Hb
    isplitl [HV Hd]
    · isplitl [HV]; · iexact HV
      iexact Hd
    isplitr; · iexact Hlev
    iexact Hg1
  iintro ⟨Hb, HV, Hd⟩
  iapply (StableHlo.wp_seq 𝒱 none Set.univ d (ucRefs τ sig) _ opsD subD freshD (w6 m d)) $$ [Hb HV]
  · isplitl [Hb]; · iexact Hb
    iexact HV
  iintro ⟨Hb, HV⟩
  rw [wp_pure]
  imodintro
  isplitl [Hd HR]
  · isplitl [Hd]; · iexact Hd
    iexact HR
  isplitl [HV]; · iexact HV
  isplitl [Hb]; · iexact Hb
  iexact Hts

/-! ## The launch -/

/-- The launch's resource: the handshakes' rounds, the pipelines' rounds and the counters. -/
def u₀ : UU := (initOf (K (F := F)).hsCells (K (F := F)).hsToks,
  (initOf (Pipeline.cells (Pipeline.pin (pcfgs (F := F)) adm) cells_inj) (Pipeline.launchToks (Pipeline.pin (pcfgs (F := F)) adm) cells_inj), 1))

theorem hu₀ : (ownU (u₀ (F := F)) : sProp (MM F)) ⊢ |={Set.univ}=> iprop(BI.own (EH (initOf (K (F := F)).hsCells (K (F := F)).hsToks))
    ∗ (bigSep Finset.univ fun d : Dev nD => iprop(ghosts 0 d ∗ ghosts 1 d))
    ∗ bigSep Finset.univ fun thr : Thread nD τ => bigSep Finset.univ fun q : Fin 1 => (PP m).x q thr) := by
  have hx : (bigSep Finset.univ fun thr : Thread nD τ => bigSep Finset.univ fun q : Fin 1 => (PP m).x q thr) = (iprop(emp) : sProp (MM F)) := by
    rw [show (bigSep Finset.univ fun thr : Thread nD τ => bigSep Finset.univ fun q : Fin 1 => (PP m).x q thr) = bigSep Finset.univ fun _ => iprop(emp) from
      bigSep_congr fun _ _ => bigSep_univ_of_subsingleton (0 : Fin 1)]
    exact bigSep_emp_const _
  have hg : iprop((bigSep Finset.univ fun c : Dev nD => bigSep Finset.univ fun p : Fin 2 => Pipeline.cellsGhost (Pipeline.pin (pcfgs (F := F)) adm) EP p c)
      ∗ (bigSep Finset.univ fun c : Dev nD => bigSep Finset.univ fun p : Fin 2 => Pipeline.toksInit (Pipeline.pin (pcfgs (F := F)) adm) EP p c))
      = (bigSep Finset.univ fun d : Dev nD => iprop(ghosts 0 d ∗ ghosts 1 d) : sProp (MM F)) := by
    rw [← bigSep_sep']
    refine bigSep_congr fun d _ => ?_
    rw [← bigSep_sep', bigSep_fin_two]
    rfl
  rw [hx]
  iintro Hu
  ihave Hu := (ownU_pair _ _) $$ Hu
  icases Hu with ⟨Hh, Hr⟩
  ihave Hr := (own_pair_emb embR _ _) $$ Hr
  icases Hr with ⟨Hp, -⟩
  ihave Hp := (Entails.of_eq (show (BI.own (((Emb.inl : Emb UP (UP × Counters)).trans embR) (u₀ (F := F)).2.1) : sProp (MM F))
    = BI.own (EP (initOf (Pipeline.cells (Pipeline.pin (pcfgs (F := F)) adm) cells_inj) (Pipeline.launchToks (Pipeline.pin (pcfgs (F := F)) adm) cells_inj))) from rfl)) $$ Hp
  imod (Pipeline.fund_ghost (Pipeline.pin (pcfgs (F := F)) adm) EP cells_inj) $$ Hp with Hg
  imodintro
  isplitl [Hh]; · iexact Hh
  isplitl [Hg]; · rw [← hg]; iexact Hg
  iempintro

/-- What is read of the final memory. -/
def fq (d : Dev nD) (s' : Phys nD τ sig (Elt F)) : Prop := ∀ b ∈ ucRefs τ sig, s'.mem.mem (d, b) = w7 m d b

theorem hfin (d : Dev nD) (s' : Phys nD τ sig (Elt F)) : iprop(FIN m d ∗ SI s') ⊢ (⌜fq m d s'⌝ : sProp (MM F)) := by
  refine (forall_intro fun b => (forall_intro fun hb => ?_ : _ ⊢ (iprop(∀ _ : b ∈ ucRefs τ sig, ⌜s'.mem.mem (d, b) = w7 m d b⌝) : sProp (MM F))).trans pure_forall.2).trans pure_forall.2
  iintro ⟨HV, HS⟩
  ihave Hb := (show (held (d.tc : Thread nD τ) (ucRefs τ sig) (w7 m d) : sProp (MM F)) ⊢ (((d, b) : Loc nD τ sig) ↦{fullShare} w7 m d b) from bigSep_elim hb) $$ HV
  ihave H := (SI_pointsTo_agree (st := s') (ℓ := (d, b)) (I := Finset.univ) (q := fullShare) (f := w7 m d b)) $$ [HS Hb]
  · isplitl [HS]; · iexact HS
    iexact Hb
  icases H with %h
  ipureintro; exact funext fun i => h i (Finset.mem_univ i)

def QC : PUnit × MemSt nD τ sig (Elt F) → Prop := fun r => (∀ c : Dev nD, ∀ b ∈ ucRefs τ sig, r.2.mem (c, b) = w7 m c b) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ _ facts)
    (fun q _ => match q with | 0 => SparseCore.Cfg.VecSplit.of_plain (vecSplit _ _ _ _))
    m ρ main (fun d => iprop(ghosts 0 d ∗ ghosts 1 d)) (FIN m) (u₀ (F := F)) (sep_elim_left.trans (hu₀ m)) (hmain m ρ) (fq m) (hfin m) (QC m) (fun _ h hz => ⟨h, hz⟩)

end Cert.Proof

end

end
-- ==== Proof.Values.lean ====
/-
  What @main leaves: the argument as it was, and the result as a function of it.
-/
module

public import proofs.«01_k».proof.Proof.Main

@[expose] public section

noncomputable section

namespace Cert.Proof

open Cert.KernelIdeal Cert.KernelIdeal.Gen
open Idealize.ShloMosaic Idealize.ShloMosaic.TcCoe
open Idealize.ShloMosaic.StableHlo (after)
open Idealize.SL.Sem

variable {F : FTy → Type} [FloatOps F]

/-- The samples as rows. -/
def rows (x : Vec F S8x65536x16 .f32) : Vec F S524288x16 .f32 := shapeCast S524288x16 x shapeCasts_S8x65536x16_S524288x16
/-- The least and the greatest sample of each channel. -/
def ends (x : Vec F S8x65536x16 .f32) : Vec F S2x16 .f32 := mmV (mnS (rows x) 128) (mxS (rows x) 128)
/-- The zeros the counts start from. -/
def zeros : Vec F S48000 .f32 := broadcastInDim S48000 ![] bcast_S_S48000 (constant S_ .f32 0x00000000#32)
/-- The tiles' counts by pair and cell. -/
def parts (x : Vec F S8x65536x16 .f32) : Vec F S32x120x400 .f32 :=
  shapeCast S32x120x400 (histBuf (xtV (rows x)) (ends x) zeros) shapeCasts_S32x48000_S32x120x400
/-- The matrix of the pairs' values. -/
def mat (x : Vec F S8x65536x16 .f32) : Vec F S16x16 .f32 :=
  finalV (parts x) (fun i => FloatOps.ofBits .f32 (lit0 (S400x20.rowMajor i))) (fun i => FloatOps.ofBits .f32 (lit1 (S20x400.rowMajor i)))
    (fun i => FloatOps.ofBits .f32 (lit2 (S400x20.rowMajor i))) (fun i => FloatOps.ofBits .f32 (lit3 (S20x400.rowMajor i)))
    (fun i => FloatOps.ofBits .f32 (lit4 (S120x16.rowMajor i))) (fun i => FloatOps.ofBits .f32 (lit5 (S120x16.rowMajor i)))
/-- The result. -/
def kOut (x : Vec F S8x65536x16 .f32) : Vec F S8x16x16 .f32 :=
  broadcastInDim S8x16x16 ![0, 1, 2] bcast_S1x16x16_S8x16x16_0_1_2 (broadcastInDim S1x16x16 ![1, 2] bcast_S16x16_S1x16x16_1_2 (mat x))

variable (m : (ℓ : Loc nD τ sig) → Buf (Elt F) ℓ) (d : Dev nD)

/-- The argument on one device. -/
abbrev arg : Vec F S8x65536x16 .f32 := m ((d.tc : Thread nD τ).loc main_arg0)

theorem w1_arg : w1 m d (bf main_arg0) = arg m d := by unfold w1 opsA; after_results; rfl
theorem w1_v0 : w1 m d (bf main_v0) = rows (arg m d) := by unfold w1 opsA; after_results; rfl
theorem w1_cst : w1 m d (bf main_cst) = fun i => FloatOps.ofBits .f32 (lit0 (S400x20.rowMajor i)) := by unfold w1 opsA; after_results; rfl
theorem w1_cst_0 : w1 m d (bf main_cst_0) = fun i => FloatOps.ofBits .f32 (lit1 (S20x400.rowMajor i)) := by unfold w1 opsA; after_results; rfl
theorem w1_cst_1 : w1 m d (bf main_cst_1) = fun i => FloatOps.ofBits .f32 (lit2 (S400x20.rowMajor i)) := by unfold w1 opsA; after_results; rfl
theorem w1_cst_2 : w1 m d (bf main_cst_2) = fun i => FloatOps.ofBits .f32 (lit3 (S20x400.rowMajor i)) := by unfold w1 opsA; after_results; rfl
theorem w1_cst_3 : w1 m d (bf main_cst_3) = fun i => FloatOps.ofBits .f32 (lit4 (S120x16.rowMajor i)) := by unfold w1 opsA; after_results; rfl
theorem w1_cst_4 : w1 m d (bf main_cst_4) = fun i => FloatOps.ofBits .f32 (lit5 (S120x16.rowMajor i)) := by unfold w1 opsA; after_results; rfl

/-- What the calls and the lines between leave alone. -/
theorem w5_keep (r : Ref sig .tc) (h1 : r ≠ main_v1_0) (h2 : r ≠ main_v1_1) (h3 : r ≠ main_cst_5) (h4 : r ≠ main_v2) (h5 : r ≠ main_v3) (h6 : r ≠ main_v4) :
    w5 m d (bf r) = w1 m d (bf r) := by
  unfold w5 opsC
  rw [StableHlo.after_cons, StableHlo.after_nil, StableHlo.reshape_result_ne (h := h6)]
  unfold w4
  rw [put_ne _ _ _ _ h5]
  unfold w3 opsB
  rw [StableHlo.after_cons, StableHlo.after_cons, StableHlo.after_nil, StableHlo.unary_result_ne (h := h4), StableHlo.nullary_result_ne (h := h3)]
  unfold w2
  rw [put_ne _ _ _ _ h2, put_ne _ _ _ _ h1]

theorem w3_xt : w3 m d (bf main_v1_0) = xtV (rows (arg m d)) := by
  unfold w3 opsB; after_results
  unfold w2
  rw [put_ne _ _ _ _ (by decide), put_same, w1_v0]
theorem w3_mm : w3 m d (bf main_v1_1) = ends (arg m d) := by
  unfold w3 opsB; after_results
  unfold w2
  rw [put_same, w1_v0]; rfl
theorem w3_zz : w3 m d (bf main_v2) = zeros := by
  unfold w3 opsB; after_results; rfl

theorem w5_v4 : w5 m d (bf main_v4) = parts (arg m d) := by
  unfold w5 opsC; after_results
  unfold w4
  rw [put_same, w3_xt, w3_mm, w3_zz]; rfl

theorem out2_eq : out2 (vals (w5 m)) d = mat (arg m d) := by
  unfold out2 vals
  rw [w5_v4, w5_keep m d main_cst (by decide) (by decide) (by decide) (by decide) (by decide) (by decide),
    w5_keep m d main_cst_0 (by decide) (by decide) (by decide) (by decide) (by decide) (by decide),
    w5_keep m d main_cst_1 (by decide) (by decide) (by decide) (by decide) (by decide) (by decide),
    w5_keep m d main_cst_2 (by decide) (by decide) (by decide) (by decide) (by decide) (by decide),
    w5_keep m d main_cst_3 (by decide) (by decide) (by decide) (by decide) (by decide) (by decide),
    w5_keep m d main_cst_4 (by decide) (by decide) (by decide) (by decide) (by decide) (by decide),
    w1_cst, w1_cst_0, w1_cst_1, w1_cst_2, w1_cst_3, w1_cst_4]
  rfl

theorem w7_arg : w7 m d (bf main_arg0) = arg m d := by
  unfold w7 opsD; after_results
  unfold w6
  rw [put_ne _ _ _ _ (by decide), w5_keep m d main_arg0 (by decide) (by decide) (by decide) (by decide) (by decide) (by decide), w1_arg]

theorem w7_out : w7 m d (bf main_v7) = kOut (arg m d) := by
  unfold w7 opsD; after_results
  unfold w6
  rw [put_same, out2_eq]; rfl

/-- The run, at the argument, the result and the counters. -/
theorem run_out [∀ e, Nonempty (Elt F e)] (ρ : Dev nD → PrngReg) :
    θ_run (Cert.KernelIdeal.defs (F := F)) (Cert.KernelIdeal.threads (F := F)) ⟨m, fun _ => 0, ρ⟩ fun r =>
      (∀ c : Dev nD, r.2.mem ((c.tc : Thread nD τ).loc main_v7) = kOut (arg m c) ∧ r.2.mem ((c.tc : Thread nD τ).loc main_arg0) = arg m c)
        ∧ r.2.sem = fun _ => 0 :=
  (θ_run _ _ _).mono (fun _ h => ⟨fun c => ⟨(h.1 c (bf main_v7) (by decide)).trans (w7_out m c), (h.1 c (bf main_arg0) (by decide)).trans (w7_arg m c)⟩, h.2⟩)
    (run_main m ρ)

end Cert.Proof

end

end
-- ==== Proof.Frame.lean ====
/-
  The kernel's frame over float words: its text is the text the run was proved for, body by body.
-/
module

public import proofs.«01_k».proof.Defs
public import proofs.«01_k».proof.Proof.Gen.Kernel
public import proofs.«01_k».proof.Proof.Values

@[expose] public section

noncomputable section

namespace Cert.Proof

open Idealize.ShloMosaic Idealize.SL.Sem

/-- Every processor's body is the same in both programs. -/
theorem bodies_eq : Cert.Kernel.defs₀ (F := Bits) = Cert.KernelIdeal.defs₀ := by
  funext p ℓ a
  match p, ℓ, a with
  | .tc, 0, (_, _) => rfl
  | .scVector _ _, 1, _ => rfl
  | .tc, 2, (_, _) => rfl
  | .tc, 1, _ => rfl
  | .scVector _ _, 0, _ => rfl
  | .scVector _ _, 2, _ => rfl
  | .scScalar _, 0, _ => rfl
  | .scScalar _, 1, _ => rfl
  | .scScalar _, 2, _ => rfl

theorem defs_eq : Cert.Kernel.defs (F := Bits) = Cert.KernelIdeal.defs :=
  congrArg (fun d => (Cert.KernelIdeal.sc (F := Bits)).defs (Pipeline.defs Cert.KernelIdeal.pcfgs d)) bodies_eq

/-- The kernel runs, returns its argument and leaves every counter at zero. -/
theorem frame_kernel : Cert.quiescent_Kernel := by
  intro m ρ _
  rw [defs_eq]
  exact (θ_run (Cert.KernelIdeal.defs (F := Bits)) _ _).mono (fun _ h => ⟨fun c => (h.1 c).2, h.2⟩) (run_out (F := Bits) m ρ)

end Cert.Proof

end

end
-- ==== Proof.RefDef.lean ====
/-
  The reference's result in named steps.
-/
module

public import proofs.«01_k».proof.Proof.Gen.ReferenceIdeal.Run

@[expose] public section

noncomputable section

namespace Cert.Proof.Ref

open Cert.ReferenceIdeal Cert.ReferenceIdeal.Gen
open Idealize.ShloMosaic Idealize.ShloMosaic.TcCoe

variable {F : FTy → Type} [FloatOps F]

def zro : FVec F S_ .f32 := constant S_ .f32 0x00000000#32
def tiny : FVec F S_ .f32 := constant S_ .f32 0x2EDBE6FF#32

section Samples
variable (x : FVec F S8x65536x16 .f32)

/-- Each channel's least and greatest sample, and a bin's width. -/
def rMin : FVec F S16 .f32 := Host.reduce FloatOps.minimumf x (constant S_ .f32 0x7F800000#32) reducesTo_S8x65536x16_S16_d0_1 h_S_
def rMax : FVec F S16 .f32 := Host.reduce FloatOps.maximumf x (constant S_ .f32 0xFF800000#32) reducesTo_S8x65536x16_S16_d0_1 h_S_
def rWid : FVec F S16 .f32 := Host.divf (subf (rMax x) (rMin x)) (broadcastInDim S16 ![] bcast_S_S16 (constant S_ .f32 0x41A00000#32))
/-- A channel's value at every sample. -/
def chan (v : FVec F S16 .f32) : FVec F S8x65536x16 .f32 :=
  broadcastInDim S8x65536x16 ![0, 1, 2] bcast_S1x1x16_S8x65536x16_0_1_2 (broadcastInDim S1x1x16 ![2] bcast_S16_S1x1x16_2 v)
/-- Every sample's bin. -/
def rBin : IVec S8x65536x16 32 :=
  minsi (broadcastInDim S8x65536x16 ![] bcast_S_S8x65536x16 (id (constantI S_ 32 19#32)))
    (maxsi (broadcastInDim S8x65536x16 ![] bcast_S_S8x65536x16 (id (constantI S_ 32 0#32)))
      (fptosi 32 (Host.divf (subf x (chan (rMin x))) (chan (rWid x)))))
def rRow : IVec S524288x16 32 := shapeCast _ (rBin x) shapeCasts_S8x65536x16_S524288x16
end Samples

/-- The rows' bins as marks. -/
def rHot (q : IVec S524288x16 32) : FVec F S524288x16x20 .f32 :=
  uitofp .f32 (cmpi .eq
    (broadcastInDim S524288x16x20 ![0, 1, 2] bcast_S524288x16x1_S524288x16x20_0_1_2 (broadcastInDim S524288x16x1 ![0, 1] bcast_S524288x16_S524288x16x1_0_1 q))
    (broadcastInDim S524288x16x20 ![0, 1, 2] bcast_S1x1x20_S524288x16x20_0_1_2 (broadcastInDim S1x1x20 ![2] bcast_S20_S1x1x20_2 (iotaInDim S20 32 0))))

section Marks
variable (o : FVec F S524288x16x20 .f32)

def rHist : FVec F S16x20 .f32 := Host.reduceAdd o zro reducesTo_S524288x16x20_S16x20_d0 h_S_
def rJoin : FVec F S16x16x20x20 .f32 :=
  transpose S16x16x20x20 [2, 0, 3, 1] (Host.dotGeneral dot_S524288x16x20_S524288x16x20_S16x20x16x20_0_0_12_12_n_n none o o)
    transposes_S16x20x16x20_S16x16x20x20_2_0_3_1
end Marks

/-- The shares of a channel's counts, and their entropy. -/
def rShare (h : FVec F S16x20 .f32) : FVec F S16x20 .f32 :=
  Host.divf h (broadcastInDim S16x20 ![0, 1] bcast_S16x1_S16x20_0_1
    (broadcastInDim S16x1 ![0] bcast_S16_S16x1_0 (Host.reduceAdd h zro reducesTo_S16x20_S16_d1 h_S_)))
def rEnt (q : FVec F S16x20 .f32) : FVec F S16 .f32 :=
  Host.negf (Host.reduceAdd (mulf q (Host.log (addf q (broadcastInDim S16x20 ![] bcast_S_S16x20 tiny)))) zro reducesTo_S16x20_S16_d1 h_S_)

/-- The shares of a pair's counts, their marginals and their information. -/
def rJs (j : FVec F S16x16x20x20 .f32) : FVec F S16x16x20x20 .f32 :=
  Host.divf j (broadcastInDim S16x16x20x20 ![0, 1, 2, 3] bcast_S16x16x1x1_S16x16x20x20_0_1_2_3
    (broadcastInDim S16x16x1x1 ![0, 1] bcast_S16x16_S16x16x1x1_0_1 (Host.reduceAdd j zro reducesTo_S16x16x20x20_S16x16_d2_3 h_S_)))
def rFirst (q : FVec F S16x16x20x20 .f32) : FVec F S16x16x20x20 .f32 :=
  broadcastInDim S16x16x20x20 ![0, 1, 2, 3] bcast_S16x16x20x1_S16x16x20x20_0_1_2_3
    (broadcastInDim S16x16x20x1 ![0, 1, 2] bcast_S16x16x20_S16x16x20x1_0_1_2 (Host.reduceAdd q zro reducesTo_S16x16x20x20_S16x16x20_d3 h_S_))
def rSecond (q : FVec F S16x16x20x20 .f32) : FVec F S16x16x20x20 .f32 :=
  broadcastInDim S16x16x20x20 ![0, 1, 2, 3] bcast_S16x16x1x20_S16x16x20x20_0_1_2_3
    (broadcastInDim S16x16x1x20 ![0, 1, 3] bcast_S16x16x20_S16x16x1x20_0_1_3 (Host.reduceAdd q zro reducesTo_S16x16x20x20_S16x16x20_d2 h_S_))
def rMi (q : FVec F S16x16x20x20 .f32) : FVec F S16x16 .f32 :=
  Host.reduceAdd (mulf q (Host.log (addf (Host.divf q (mulf (rFirst q) (rSecond q))) (broadcastInDim S16x16x20x20 ![] bcast_S_S16x16x20x20 tiny))))
    zro reducesTo_S16x16x20x20_S16x16_d2_3 h_S_

/-- A value per row, or per column, of the matrix. -/
def rowB {α : Type} (v : S16.Idx → α) : S16x16.Idx → α :=
  broadcastInDim S16x16 ![0, 1] bcast_S16x1_S16x16_0_1 (broadcastInDim S16x1 ![0] bcast_S16_S16x1_0 v)
def colB {α : Type} (v : S16.Idx → α) : S16x16.Idx → α :=
  broadcastInDim S16x16 ![0, 1] bcast_S1x16_S16x16_0_1 (broadcastInDim S1x16 ![1] bcast_S16_S1x16_1 v)
def rVi (h : FVec F S16 .f32) (w : FVec F S16x16 .f32) : FVec F S16x16 .f32 :=
  subf (addf (rowB h) (colB h)) (mulf (broadcastInDim S16x16 ![] bcast_S_S16x16 (constant S_ .f32 0x40000000#32)) w)
def rUp (v : FVec F S16x16 .f32) : FVec F S16x16 .f32 :=
  select (cmpi .slt (rowB (iotaInDim S16 32 0)) (colB (iotaInDim S16 32 0))) v (broadcastInDim S16x16 ![] bcast_S_S16x16 (id zro))
def rSym (v : FVec F S16x16 .f32) : FVec F S16x16 .f32 := addf v (transpose S16x16 [1, 0] v transposes_S16x16_S16x16_1_0)
def rMat (x : FVec F S8x65536x16 .f32) : FVec F S16x16 .f32 :=
  rSym (rUp (rVi (rEnt (rShare (rHist (rHot (rRow x))))) (rMi (rJs (rJoin (rHot (rRow x)))))))
def rOut (x : FVec F S8x65536x16 .f32) : FVec F S8x16x16 .f32 :=
  broadcastInDim S8x16x16 ![0, 1, 2] bcast_S1x16x16_S8x16x16_0_1_2 (broadcastInDim S1x16x16 ![1, 2] bcast_S16x16_S1x16x16_1_2 (rMat x))

set_option maxRecDepth 8192 in
theorem res_eq (m : (ℓ : Loc nD τ sig) → Buf (Elt F) ℓ) (c : Dev nD) :
    Cert.ReferenceIdeal.Value.res_main_v69 m c = rOut (m ((c.tc : Thread nD τ).loc main_arg0)) := rfl

end Cert.Proof.Ref

end

end
-- ==== Proof.Stat.lean ====
/-
  The statistics the two programs share, stated of the bins alone: how often a channel falls in a
  bin, how often two channels fall in two bins together, and what is made of these counts.
-/
module

public import Idealize.ShloMosaic.PureOps.Ideal.Laws

@[expose] public section

noncomputable section

namespace Cert.Proof

open Idealize.ShloMosaic

/-- How often channel `i` falls in bin `u`. -/
def N1 (b : ℕ → Fin 16 → ℕ) (i : Fin 16) (u : ℕ) : ℕ := ∑ e ∈ Finset.range 524288, if b e i = u then 1 else 0
/-- How often channel `i` falls in bin `u` while channel `j` falls in bin `v`. -/
def N2 (b : ℕ → Fin 16 → ℕ) (i j : Fin 16) (u v : ℕ) : ℕ := ∑ e ∈ Finset.range 524288, if b e i = u ∧ b e j = v then 1 else 0

section Counts
variable {b : ℕ → Fin 16 → ℕ} (hb : ∀ e i, b e i < 20)
include hb

theorem one_bin (e : ℕ) (i : Fin 16) : (∑ u : Fin 20, if b e i = u.val then 1 else 0) = 1 := by
  rw [Finset.sum_eq_single (⟨b e i, hb e i⟩ : Fin 20)]
  · simp
  · intro u _ hu
    rw [if_neg]
    intro h; exact hu (Fin.ext h.symm)
  · intro h; exact absurd (Finset.mem_univ _) h

theorem N2_right (i j : Fin 16) (u : ℕ) : ∑ v : Fin 20, N2 b i j u v.val = N1 b i u := by
  unfold N2 N1
  rw [Finset.sum_comm]
  refine Finset.sum_congr rfl fun e _ => ?_
  by_cases h : b e i = u
  · simp only [h, true_and, if_true]; exact one_bin hb e j
  · simp [h]

theorem N2_left (i j : Fin 16) (v : ℕ) : ∑ u : Fin 20, N2 b i j u.val v = N1 b j v := by
  unfold N2 N1
  rw [Finset.sum_comm]
  refine Finset.sum_congr rfl fun e _ => ?_
  by_cases h : b e j = v
  · simp only [h, and_true, if_true]; exact one_bin hb e i
  · simp [h]

theorem N1_total (i : Fin 16) : ∑ u : Fin 20, N1 b i u.val = 524288 := by
  unfold N1
  rw [Finset.sum_comm, Finset.sum_congr rfl fun e _ => one_bin hb e i]
  simp

end Counts

/-- A count as a share of all samples. -/
def fr (n : ℕ) : EReal := Ideal.div (n : EReal) ((524288 : ℕ) : EReal)

theorem fr_coe (n : ℕ) : fr n = (((n : ℝ) / 524288 : ℝ) : EReal) := by
  have h : (((524288 : ℕ) : EReal)) = ((524288 : ℝ) : EReal) := by norm_cast
  unfold fr
  rw [h, Ideal.div_coe (by norm_num)]
  have h' : ((n : ℕ) : EReal) = ((n : ℝ) : EReal) := by norm_cast
  rw [h', ← EReal.coe_mul]
  congr 1
  ring

theorem fr_sum {ι : Type} (s : Finset ι) (f : ι → ℕ) : ∑ x ∈ s, fr (f x) = fr (∑ x ∈ s, f x) := by
  simp only [fr_coe]
  rw [Nat.cast_sum, Finset.sum_div]
  induction s using Finset.cons_induction with
  | empty => simp
  | cons a s ha ih => rw [Finset.sum_cons, Finset.sum_cons, EReal.coe_add, ih]

/-- The number of samples, as the kernel spells it. -/
theorem ofBits_total : Ideal.ofBits .f32 0x49000000#32 = ((524288 : ℕ) : EReal) := by
  have h : (((524288 : ℕ) : EReal)) = ((524288 : ℝ) : EReal) := by norm_cast
  rw [h]
  simp [Ideal.ofBits, Ideal.ieee]
  rw [← EReal.coe_mul]
  norm_num

theorem ofBits_one : Ideal.ofBits .f32 0x3F800000#32 = 1 := by
  simp [Ideal.ofBits, Ideal.ieee]
  rw [← EReal.coe_mul]
  norm_num

/-- What is added to a share before its logarithm is taken. -/
def eps : EReal := Ideal.ofBits .f32 0x2EDBE6FF#32

/-- The entropy of channel `i`. -/
def ent (b : ℕ → Fin 16 → ℕ) (i : Fin 16) : EReal :=
  -∑ u : Fin 20, fr (N1 b i u.val) * Ideal.log (fr (N1 b i u.val) + eps)
/-- One cell's part of the mutual information of channels `i` and `j`. -/
def cellV (b : ℕ → Fin 16 → ℕ) (i j : Fin 16) (u v : ℕ) : EReal :=
  fr (N2 b i j u v) * Ideal.log (Ideal.div (fr (N2 b i j u v)) (fr (N1 b i u) * fr (N1 b j v)) + eps)
/-- The mutual information of channels `i` and `j`. -/
def mi (b : ℕ → Fin 16 → ℕ) (i j : Fin 16) : EReal := ∑ u : Fin 20, ∑ v : Fin 20, cellV b i j u.val v.val
/-- The variation of information of channels `i` and `j`. -/
def vi (b : ℕ → Fin 16 → ℕ) (i j : Fin 16) : EReal := (ent b i + ent b j) - Ideal.ofBits .f32 0x40000000#32 * mi b i j
/-- The matrix: the pair's value on either side of the diagonal, nothing on it. -/
def viM (b : ℕ → Fin 16 → ℕ) (i j : Fin 16) : EReal :=
  (if i < j then vi b i j else 0) + (if j < i then vi b j i else 0)

end Cert.Proof
-- ==== Proof.Bins.lean ====
/-
  The bins the tiles compute, read one event at a time.
-/
module

public import proofs.«01_k».proof.Proof.Tile
public import proofs.«01_k».proof.Proof.Stat
public import Idealize.ShloMosaic.Lib.ValueLayout
public import Idealize.ShloMosaic.Lib.Pipeline.Value

@[expose] public section

noncomputable section

namespace Cert.Proof

open Cert.KernelIdeal Cert.KernelIdeal.Gen
open Idealize.ShloMosaic
open Idealize.ShloMosaic.ValueIdx

/-- The bin of a sample of a channel with samples from `lo` to `hi`. -/
def binE (lo hi x : EReal) : BitVec 32 :=
  IntOp.minsi 19#32 (IntOp.maxsi 0#32 (Ideal.fptosi 32 (Ideal.div (x - lo) (Ideal.div (hi - lo) (Ideal.ofBits .f32 0x41A00000#32)))))

theorem binE_lt (lo hi x : EReal) : (binE lo hi x).toNat < 20 := clip_lt _

/-- One row read as a vector. -/
theorem row16 {α : Type} (v : S1x16.Idx → α) (h : S1x16.ShapeCasts S16) (l : Fin 16) : shapeCast S16 v h (ix1 l) = v (ix2 0 l) := by
  refine shapeCast_apply v h _ _ ?_
  refine (Shape.rowMajor_val_two _).trans (Eq.trans ?_ (Shape.rowMajor_val_one _).symm)
  show 0 * 16 + l.val = l.val
  omega

/-- An element taken out of a vector. -/
theorem pick {α : Type} (v : S16.Idx → α) (o : ℕ) (h : S16.Slices ![o] S1) (h' : ∀ a, (![0] : Fin 1 → ℕ) a < S1.size a) (ho : o < 16) :
    extractAt ![0] (extractStridedSlice S1 ![o] v h) h' = v (ix1 ⟨o, ho⟩) := by
  unfold extractAt extractStridedSlice
  congr 1
  funext a
  fin_cases a
  exact Fin.ext (by show o + 0 = o; omega)

theorem loC_apply (v5 : Vec Ideal S1x16 .f32) (c : Fin 16) : loC v5 c = v5 (ix2 0 c) := by
  rw [← row16 v5 shapeCasts_S1x16_S16 c]
  fin_cases c <;> exact pick (shapeCast S16 v5 shapeCasts_S1x16_S16) _ (by decide) (by decide) (by decide)

theorem wdC_apply (v5 v7 : Vec Ideal S1x16 .f32) (c : Fin 16) :
    wdC v5 v7 c = Ideal.div (v7 (ix2 0 c) - v5 (ix2 0 c)) (Ideal.ofBits .f32 0x41A00000#32) := by
  have e : k1_pay73 v5 v7 (ix1 c) = Ideal.div (v7 (ix2 0 c) - v5 (ix2 0 c)) (Ideal.ofBits .f32 0x41A00000#32) := by
    rw [← row16 v5 shapeCasts_S1x16_S16 c, ← row16 v7 shapeCasts_S1x16_S16 c]
    rfl
  rw [← e]
  fin_cases c <;> exact pick (k1_pay73 v5 v7) _ (by decide) (by decide) (by decide)

theorem ld16_apply (g : Vec Ideal S16x4096 .f32) (off : Fin 2 → ℕ) (h : ∀ a, off a + S1x16.size a ≤ S16x4096.size a) (l : Fin 16)
    (c : Fin 16) (k : Fin 4096) (h0 : off 0 = c.val) (h1 : off 1 + l.val = k.val) : ld16 g off h (ix2 0 l) = g (ix2 c k) := by
  show g _ = g _
  congr 1
  funext a
  fin_cases a
  · exact Fin.ext (by show off 0 + 1 * 0 = c.val; omega)
  · exact Fin.ext (by show off 1 + 1 * l.val = k.val; omega)

theorem rowC_off (g : Vec Ideal S16x4096 .f32) (t : Fin k1_t2_loop.trips) (c : Fin 16) :
    ∃ off h, rowC g t c = ld16 g off h ∧ off = ![c.val, 16 * t.val] := by
  fin_cases c <;> refine ⟨_, _, rfl, ?_⟩ <;>
    simp only [k1_off2_eq, k1_off3_eq, k1_off4_eq, k1_off5_eq, k1_off6_eq, k1_off7_eq, k1_off8_eq, k1_off9_eq, k1_off10_eq, k1_off11_eq,
      k1_off12_eq, k1_off13_eq, k1_off14_eq, k1_off15_eq, k1_off16_eq, k1_off17_eq]

theorem rowC_apply (g : Vec Ideal S16x4096 .f32) (t : Fin k1_t2_loop.trips) (c l : Fin 16) (k : Fin 4096) (hk : k.val = t.val * 16 + l.val) :
    rowC g t c (ix2 0 l) = g (ix2 c k) := by
  obtain ⟨off, h, e, ho⟩ := rowC_off g t c
  rw [e]
  refine ld16_apply g off h l c k ?_ ?_
  · rw [ho]; rfl
  · rw [ho]; show 16 * t.val + l.val = k.val; omega

theorem binC_apply (v5 v7 : Vec Ideal S1x16 .f32) (g : Vec Ideal S16x4096 .f32) (t : Fin k1_t2_loop.trips) (c l : Fin 16) (k : Fin 4096)
    (hk : k.val = t.val * 16 + l.val) :
    binC v5 v7 g t c (ix1 l) = binE (v5 (ix2 0 c)) (v7 (ix2 0 c)) (g (ix2 c k)) := by
  rw [← rowC_apply g t c l k hk, ← row16 (rowC g t c) shapeCasts_S1x16_S16 l]
  unfold binC
  rw [loC_apply, wdC_apply]
  rfl

theorem chunk_apply (X : Vec Ideal S16x524288 .f32) (L : grid1.Coords) (n : Fin k1_t1_loop.trips) (c : Fin 16) (k : Fin 4096) (m : Fin 524288)
    (hm : m.val = (2 * (L 1).val + (L 0).val) * 16384 + n.val * 4096 + k.val) : chunk X L n (ix2 c k) = X (ix2 c m) := by
  show X _ = X _
  congr 1
  funext a
  fin_cases a
  · exact Fin.ext (by show k1_off1 L n 0 + 1 * c.val = c.val; rw [k1_off1_eq]; show 0 + 1 * c.val = c.val; omega)
  · exact Fin.ext (by
      show k1_off1 L n 1 + 1 * k.val = m.val
      rw [k1_off1_eq]
      show 32768 * (L 1).val + 16384 * (L 0).val + 4096 * n.val + 1 * k.val = m.val
      omega)

theorem loR_apply (M : Vec Ideal S2x16 .f32) (c : Fin 16) : loR M (ix2 0 c) = M (ix2 0 c) := by
  show M _ = M _
  congr 1
  funext a
  fin_cases a
  · rfl
  · exact Fin.ext (by show 0 + 1 * c.val = c.val; omega)

theorem hiR_apply (M : Vec Ideal S2x16 .f32) (c : Fin 16) : hiR M (ix2 0 c) = M (ix2 1 c) := by
  show M _ = M _
  congr 1
  funext a
  fin_cases a
  · rfl
  · exact Fin.ext (by show 0 + 1 * c.val = c.val; omega)

end Cert.Proof
-- ==== Proof.Counts.lean ====
/-
  What the histograms hold: at each cell of each pair, how many of the events gone through so far
  fall in it.
-/
module

public import proofs.«01_k».proof.Proof.Bins

@[expose] public section

noncomputable section

namespace Cert.Proof

open Cert.KernelIdeal Cert.KernelIdeal.Gen
open Idealize.ShloMosaic
open Idealize.ShloMosaic.ValueIdx

/-- A histogram of whole numbers. -/
def IsCount (h : Vec Ideal S48000 .f32) (n : ℕ → ℕ) : Prop := ∀ i : S48000.Idx, h i = ((n (i 0).val : ℕ) : EReal)

theorem IsCount.congr {h : Vec Ideal S48000 .f32} {n n' : ℕ → ℕ} (hh : IsCount h n) (e : ∀ c, n c = n' c) : IsCount h n' :=
  (funext e : n = n') ▸ hh

/-- One lane's addition at the cell it names. -/
def lane1 (v : IVec S16 32) (ones : Vec Ideal S16 .f32) (h : Vec Ideal S48000 .f32) (k : Fin 16) : Vec Ideal S48000 .f32 :=
  fun j => if (v (ix1 k)).toNat = (j 0).val then (h j + ones (ix1 k) : EReal) else h j

theorem storeIdx_lanes (h : Vec Ideal S48000 .f32) (v : IVec S16 32) (hv : InH v) (ones : Vec Ideal S16 .f32) :
    storeIdx h ![v] ones (fun _ => 1#1) true hv.all = (List.finRange 16).foldl (lane1 v ones) h := by
  refine congrArg (fun f => List.foldl f h (List.finRange 16)) (funext fun g => funext fun (k : Fin 16) => ?_)
  refine (if_pos rfl).trans (funext fun j => ?_)
  have key : ∀ (x : S16.Idx) [Decidable (∀ a, (j a).val = (idxAt ![v] hv.all x a).val)], x = ix1 k →
      (if ∀ a, (j a).val = (idxAt ![v] hv.all x a).val then (g (idxAt ![v] hv.all x) + ones x : EReal) else g j) = lane1 v ones g k j := by
    intro x _ hx
    subst hx
    unfold lane1
    by_cases hj : (v (ix1 k)).toNat = (j 0).val
    · have hij : idxAt ![v] hv.all (ix1 k : S16.Idx) = j := funext fun a => by fin_cases a; exact Fin.ext hj
      rw [if_pos fun a => by rw [hij], hij, if_pos hj]
    · rw [if_neg hj, if_neg]
      intro e
      exact hj (e 0).symm
  have hx : (Shape.ofLane (d := ![16]) k : S16.Idx) = ix1 k := funext fun a => by fin_cases a; rfl
  refine Eq.trans ?_ (key (Shape.ofLane (d := ![16]) k) hx)
  by_cases hq : ∀ a, (j a).val = (idxAt ![v] hv.all (Shape.ofLane (d := ![16]) k : S16.Idx) a).val
  · exact (if_pos hq).trans (if_pos hq).symm
  · exact (if_neg hq).trans (if_neg hq).symm

theorem lanes_count (l : List (Fin 16)) (v : IVec S16 32) (ones : Vec Ideal S16 .f32) (h1 : ∀ x, ones x = (1 : EReal)) :
    ∀ (h : Vec Ideal S48000 .f32) (n : ℕ → ℕ), IsCount h n →
      IsCount (l.foldl (lane1 v ones) h) (fun c => n c + (l.map fun k => if (v (ix1 k)).toNat = c then 1 else 0).sum) := by
  induction l with
  | nil => intro h n hh; exact hh.congr fun c => by simp
  | cons k l ih =>
    intro h n hh
    rw [List.foldl_cons]
    refine (ih _ (fun c => n c + if (v (ix1 k)).toNat = c then 1 else 0) ?_).congr fun c => by rw [List.map_cons, List.sum_cons]; omega
    intro j
    unfold lane1
    show _ = ((n (j 0).val + (if (v (ix1 k)).toNat = (j 0).val then 1 else 0) : ℕ) : EReal)
    by_cases hj : (v (ix1 k)).toNat = (j 0).val
    · rw [if_pos hj, if_pos hj, hh j, h1, Nat.cast_add, Nat.cast_one]
    · rw [if_neg hj, if_neg hj]
      exact hh j

theorem scat_count {ones : Vec Ideal S16 .f32} (h1 : ∀ x, ones x = (1 : EReal)) {v : IVec S16 32} (hv : InH v) {h : Vec Ideal S48000 .f32}
    {n : ℕ → ℕ} (hh : IsCount h n) : IsCount (scat ones h v) (fun c => n c + ∑ l : Fin 16, if (v (ix1 l)).toNat = c then 1 else 0) := by
  have e : scat ones h v = storeIdx h ![v] ones (fun _ => 1#1) true hv.all := dif_pos hv
  rw [e, storeIdx_lanes h v hv ones]
  refine IsCount.congr (lanes_count (List.finRange 16) v ones h1 h n hh) fun c => ?_
  rw [Fin.sum_univ_def]

/-- How often an event falls in cell `c`. -/
def hit (l : List (Fin 16 × Fin 16)) (b : Fin 16 → ℕ) (c : ℕ) : ℕ :=
  (l.map fun p => if 400 * pairN p + 20 * b p.1 + b p.2 = c then 1 else 0).sum

theorem pairs_count {ones : Vec Ideal S16 .f32} (h1 : ∀ x, ones x = (1 : EReal)) (b : Fin 16 → IVec S16 32) (hb : ∀ c x, (b c x).toNat < 20)
    (l : List (Fin 16 × Fin 16)) : (∀ p ∈ l, p ∈ prs) → ∀ (h : Vec Ideal S48000 .f32) (n : ℕ → ℕ), IsCount h n →
      IsCount ((l.map (idxW b)).foldl (scat ones) h) (fun c => n c + ∑ k : Fin 16, hit l (fun ch => (b ch (ix1 k)).toNat) c) := by
  induction l with
  | nil => intro _ h n hh; exact hh.congr fun c => by simp [hit]
  | cons p l ih =>
    intro hl h n hh
    have hp : p ∈ prs := hl p List.mem_cons_self
    rw [List.map_cons, List.foldl_cons]
    refine (ih (fun q hq => hl q (List.mem_cons_of_mem _ hq)) _ _
      (scat_count h1 (idxW_inH hb _ (List.mem_map_of_mem hp)) hh)).congr fun c => ?_
    simp only [hit, List.map_cons, List.sum_cons, Finset.sum_add_distrib, idxW_toNat hb hp]
    omega

/-- `f` of the first `k`, each adding its own. -/
theorem upTo_count {N : ℕ} (f : Fin N → Vec Ideal S48000 .f32 → Vec Ideal S48000 .f32) (a : ℕ → ℕ → ℕ)
    (hf : ∀ (t : Fin N) h n, IsCount h n → IsCount (f t h) (fun c => n c + a t.val c)) {h : Vec Ideal S48000 .f32} {n : ℕ → ℕ} (hh : IsCount h n) :
    ∀ k, k ≤ N → IsCount (upTo f h k) (fun c => n c + ∑ t ∈ Finset.range k, a t c) := by
  intro k
  induction k with
  | zero => intro _; rw [upTo_zero]; exact hh.congr fun c => by simp
  | succ k ih =>
    intro hk
    rw [show upTo f h (k + 1) = f ⟨k, hk⟩ (upTo f h k) from upTo_succ f h ⟨k, hk⟩]
    exact (hf ⟨k, hk⟩ _ _ (ih (Nat.le_of_succ_le hk))).congr fun c => by
      rw [Finset.sum_range_succ]; show n c + _ + a k c = _; omega

/-- The bins of event `e`, the samples standing in columns. -/
def binX (X : Vec Ideal S16x524288 .f32) (M : Vec Ideal S2x16 .f32) (e : ℕ) (c : Fin 16) : ℕ :=
  (binE (M (ix2 0 c)) (M (ix2 1 c)) (X (ix2 c ⟨e % 524288, Nat.mod_lt _ (by decide)⟩))).toNat

theorem binX_lt (X : Vec Ideal S16x524288 .f32) (M : Vec Ideal S2x16 .f32) (e : ℕ) (c : Fin 16) : binX X M e c < 20 := binE_lt _ _ _

theorem ones_apply (x : S16.Idx) : k1_pay71 (F := Ideal) x = (1 : EReal) := ofBits_one

/-- The number of a tile's first event. -/
def base (L : grid1.Coords) : ℕ := (2 * (L 1).val + (L 0).val) * 16384

theorem trips1 : k1_t1_loop.trips = 4 := by decide
theorem trips2 : k1_t2_loop.trips = 256 := by decide

theorem binC_lt (v5 v7 : Vec Ideal S1x16 .f32) (g : Vec Ideal S16x4096 .f32) (t : Fin k1_t2_loop.trips) (c : Fin 16) (x : S16.Idx) :
    (binC v5 v7 g t c x).toNat < 20 := binV_lt _ _ _ x

theorem binC_event (X : Vec Ideal S16x524288 .f32) (M : Vec Ideal S2x16 .f32) (L : grid1.Coords) (n : Fin k1_t1_loop.trips)
    (t : Fin k1_t2_loop.trips) (c l : Fin 16) :
    (binC (loR M) (hiR M) (chunk X L n) t c (ix1 l)).toNat = binX X M (base L + n.val * 4096 + t.val * 16 + l.val) c := by
  have h0 : (L 0).val < 2 := (L 0).isLt
  have h1 : (L 1).val < 16 := (L 1).isLt
  have hn : n.val < 4 := trips1 ▸ n.isLt
  have ht : t.val < 256 := trips2 ▸ t.isLt
  have hl := l.isLt
  rw [binC_apply (loR M) (hiR M) (chunk X L n) t c l ⟨t.val * 16 + l.val, by omega⟩ rfl, loR_apply, hiR_apply]
  rw [chunk_apply X L n c _ ⟨(base L + n.val * 4096 + t.val * 16 + l.val) % 524288, Nat.mod_lt _ (by decide)⟩]
  · rfl
  · show _ % 524288 = _
    unfold base
    rw [Nat.mod_eq_of_lt (by omega)]
    show _ = _ + (t.val * 16 + l.val)
    omega

/-- What one trip adds. -/
def tripA (X : Vec Ideal S16x524288 .f32) (M : Vec Ideal S2x16 .f32) (e c : ℕ) : ℕ := ∑ l : Fin 16, hit prs (binX X M (e + l.val)) c

theorem tripH_count (X : Vec Ideal S16x524288 .f32) (M : Vec Ideal S2x16 .f32) (L : grid1.Coords) (n : Fin k1_t1_loop.trips)
    (t : Fin k1_t2_loop.trips) (h : Vec Ideal S48000 .f32) (m : ℕ → ℕ) (hh : IsCount h m) :
    IsCount (tripH (k1_pay71 (F := Ideal)) (loR M) (hiR M) (chunk X L n) t h) (fun c => m c + tripA X M (base L + n.val * 4096 + t.val * 16) c) := by
  have hp := pairs_count (ones := (k1_pay71 (F := Ideal) : Vec Ideal S16 .f32)) ones_apply (binC (loR M) (hiR M) (chunk X L n) t)
    (binC_lt _ _ _ _) prs (fun _ h => h) h m hh
  unfold tripH
  refine hp.congr fun c => ?_
  unfold tripA
  rw [Finset.sum_congr rfl fun l _ => congrArg (fun b => hit prs b c) (funext fun ch => binC_event X M L n t ch l)]

theorem chunkH_count (X : Vec Ideal S16x524288 .f32) (M : Vec Ideal S2x16 .f32) (L : grid1.Coords) (n : Fin k1_t1_loop.trips)
    (h : Vec Ideal S48000 .f32) (m : ℕ → ℕ) (hh : IsCount h m) :
    IsCount (chunkH (loR M) (hiR M) (chunk X L n) h k1_t2_loop.trips)
      (fun c => m c + ∑ t ∈ Finset.range k1_t2_loop.trips, tripA X M (base L + n.val * 4096 + t * 16) c) :=
  upTo_count _ (fun t c => tripA X M (base L + n.val * 4096 + t * 16) c) (fun t h m hh => tripH_count X M L n t h m hh) hh _ le_rfl

theorem tileH_count (X : Vec Ideal S16x524288 .f32) (M : Vec Ideal S2x16 .f32) (Z : Vec Ideal S48000 .f32) (hZ : IsCount Z fun _ => 0) (L : grid1.Coords) :
    IsCount (histRow X M Z L) (fun c => ∑ n ∈ Finset.range k1_t1_loop.trips, ∑ t ∈ Finset.range k1_t2_loop.trips,
      tripA X M (base L + n * 4096 + t * 16) c) :=
  (upTo_count _ (fun n c => ∑ t ∈ Finset.range k1_t2_loop.trips, tripA X M (base L + n * 4096 + t * 16) c)
    (fun n h m hh => chunkH_count X M L n h m hh) hZ _ le_rfl).congr fun _ => Nat.zero_add _

/-- A sum over consecutive blocks is the sum over all. -/
theorem sum_blocks (f : ℕ → ℕ) (b : ℕ) : ∀ a, ∑ i ∈ Finset.range a, ∑ j ∈ Finset.range b, f (i * b + j) = ∑ e ∈ Finset.range (a * b), f e := by
  intro a
  induction a with
  | zero => simp
  | succ a ih => rw [Finset.sum_range_succ, ih, Nat.succ_mul, Finset.sum_range_add]

theorem histRow_count (X : Vec Ideal S16x524288 .f32) (M : Vec Ideal S2x16 .f32) (Z : Vec Ideal S48000 .f32) (hZ : IsCount Z fun _ => 0) (L : grid1.Coords) :
    IsCount (histRow X M Z L) (fun c => ∑ e ∈ Finset.range 16384, hit prs (binX X M (base L + e)) c) := by
  refine (tileH_count X M Z hZ L).congr fun c => ?_
  rw [trips1, trips2]
  unfold tripA
  rw [← sum_blocks (fun e => hit prs (binX X M (base L + e)) c) 4096 4]
  refine Finset.sum_congr rfl fun n _ => ?_
  rw [← sum_blocks (fun e => hit prs (binX X M (base L + (n * 4096 + e))) c) 16 256]
  refine Finset.sum_congr rfl fun t _ => ?_
  rw [Finset.sum_range]
  refine Finset.sum_congr rfl fun l _ => ?_
  rw [show base L + n * 4096 + t * 16 + l.val = base L + (n * 4096 + (t * 16 + l.val)) by omega]

/-- All the tiles' counts of a cell. -/
theorem tiles_count (X : Vec Ideal S16x524288 .f32) (M : Vec Ideal S2x16 .f32) (Z : Vec Ideal S48000 .f32) (hZ : IsCount Z fun _ => 0) (c : Fin 48000) :
    (∑ w : Fin 32, histBuf X M Z (ix2 w c)) = ((∑ e ∈ Finset.range 524288, hit prs (binX X M e) c.val : ℕ) : EReal) := by
  have hw : ∀ w : Fin 32, histBuf X M Z (ix2 w c) = ((∑ e ∈ Finset.range 16384, hit prs (binX X M (w.val * 16384 + e)) c.val : ℕ) : EReal) := by
    intro w
    refine (histRow_count X M Z hZ (coordsW w) (ix1 c)).trans ?_
    have hb : base (coordsW w) = w.val * 16384 := by
      show (2 * (w.val / 2) + w.val % 2) * 16384 = _
      omega
    rw [hb]
  rw [Finset.sum_congr rfl fun w _ => hw w, ← Nat.cast_sum, Fin.sum_univ_eq_sum_range (fun w => ∑ e ∈ Finset.range 16384, hit prs (binX X M (w * 16384 + e)) c.val) 32,
    sum_blocks (fun e => hit prs (binX X M e) c.val) 16384 32]

/-! ## The pairs by number -/

theorem prs_length : prs.length = 120 := by decide
/-- Pair `p`. -/
def pr (p : Fin 120) : Fin 16 × Fin 16 := prs.get (p.cast prs_length.symm)

theorem pr_mem (p : Fin 120) : pr p ∈ prs := List.get_mem _ _
theorem pr_num : ∀ p : Fin 120, pairN (pr p) = p.val := by decide +kernel
theorem pr_lt : ∀ p : Fin 120, (pr p).1 < (pr p).2 := by decide +kernel
theorem pr_of_lt : ∀ i j : Fin 16, i < j → ∃ p, pr p = (i, j) := by decide +kernel
theorem pr_inj {p q : Fin 120} (h : pr p = pr q) : p = q := Fin.ext (by rw [← pr_num p, ← pr_num q, h])

/-- Of the pairs an event is counted for, only pair `p` counts it in a cell of pair `p`'s. -/
theorem hit_cell (b : Fin 16 → ℕ) (hb : ∀ c, b c < 20) (p : Fin 120) (u v : Fin 20) :
    hit prs b (400 * p.val + 20 * u.val + v.val) = if b (pr p).1 = u.val ∧ b (pr p).2 = v.val then 1 else 0 := by
  have e : prs = (List.finRange 120).map pr := by decide +kernel
  have hu := u.isLt
  have hv := v.isLt
  unfold hit
  conv_lhs => rw [e]
  rw [List.map_map, ← Fin.sum_univ_def]
  rw [Finset.sum_eq_single p]
  · show (if 400 * pairN (pr p) + 20 * b (pr p).1 + b (pr p).2 = _ then 1 else 0) = _
    rw [pr_num]
    have h1 := hb (pr p).1
    have h2 := hb (pr p).2
    refine if_congr ?_ rfl rfl
    constructor
    · intro h; omega
    · intro h; omega
  · intro q _ hq
    show (if 400 * pairN (pr q) + 20 * b (pr q).1 + b (pr q).2 = _ then 1 else 0) = _
    rw [pr_num]
    have h1 := hb (pr q).1
    have h2 := hb (pr q).2
    have hne : q.val ≠ p.val := fun h => hq (Fin.ext h)
    exact if_neg (by omega)
  · intro h; exact absurd (Finset.mem_univ _) h

theorem cell_count (X : Vec Ideal S16x524288 .f32) (M : Vec Ideal S2x16 .f32) (Z : Vec Ideal S48000 .f32) (hZ : IsCount Z fun _ => 0)
    (p : Fin 120) (u v : Fin 20) (c : Fin 48000) (hc : c.val = 400 * p.val + 20 * u.val + v.val) :
    (∑ w : Fin 32, histBuf X M Z (ix2 w c)) = ((N2 (binX X M) (pr p).1 (pr p).2 u.val v.val : ℕ) : EReal) := by
  rw [tiles_count X M Z hZ c, hc]
  unfold N2
  rw [Finset.sum_congr rfl fun e _ => hit_cell (binX X M e) (fun c => binX_lt X M e c) p u v]

end Cert.Proof
-- ==== Proof.Tables.lean ====
/-
  The kernel's constant tables in closed form: a one where a cell belongs to a bin, or a pair to a
  channel, and a zero elsewhere.
-/
module

public import proofs.«01_k».proof.Proof.Counts

@[expose] public section

noncomputable section

namespace Cert.Proof

open Cert.KernelIdeal Cert.KernelIdeal.Gen
open Idealize.ShloMosaic
open Idealize.ShloMosaic.ValueIdx

/-- The word of one or of zero. -/
def bitW (p : Bool) : BitVec 32 := if p then 0x3F800000#32 else 0x00000000#32

theorem lit0_eq : ∀ k : Fin 8000, lit0 k = bitW (k.val / 20 / 20 == k.val % 20) := by decide +kernel
theorem lit1_eq : ∀ k : Fin 8000, lit1 k = bitW (k.val % 400 / 20 == k.val / 400) := by decide +kernel
theorem lit2_eq : ∀ k : Fin 8000, lit2 k = bitW (k.val / 20 % 20 == k.val % 20) := by decide +kernel
theorem lit3_eq : ∀ k : Fin 8000, lit3 k = bitW (k.val % 400 % 20 == k.val / 400) := by decide +kernel
theorem lit4_eq : ∀ k : Fin 1920, lit4 k = bitW ((pr ⟨k.val / 16, by omega⟩).1.val == k.val % 16) := by decide +kernel
theorem lit5_eq : ∀ k : Fin 1920, lit5 k = bitW ((pr ⟨k.val / 16, by omega⟩).2.val == k.val % 16) := by decide +kernel

theorem bitW_apply (p : Bool) : Ideal.ofBits .f32 (bitW p) = if p then (1 : EReal) else 0 := by
  cases p
  · exact Ideal.ofBits_zero_f32
  · exact ofBits_one

end Cert.Proof
-- ==== Proof.Dots.lean ====
/-
  The last call's products and sums, read at an index.
-/
module

public import proofs.«01_k».proof.Proof.Counts
public import Idealize.ShloMosaic.Lib.Pointwise.Contract

@[expose] public section

noncomputable section

namespace Cert.Proof

open Cert.KernelIdeal Cert.KernelIdeal.Gen
open Idealize.ShloMosaic hiding ix1 ix2 ix3
open Idealize.ShloMosaic.ValueIdx

theorem dot_marg (a : FVec Ideal S120x400 .f32) (b : FVec Ideal S400x20 .f32) (p : Fin 120) (u : Fin 20) :
    matmul dot_S120x400_S400x20_S120x20_1_0_0_1_n_n (some .fp32) a b (constant S120x20 .f32 0x00000000#32) (ix2 p u)
      = ∑ k : Fin 400, (a (ix2 p k) * b (ix2 k u) : EReal) := by
  refine (Ideal.matmul_apply₁_of dot_S120x400_S400x20_S120x20_1_0_0_1_n_n rfl rfl a b _ (ix2 p u) (fun k => ix2 p k) (fun k => ix2 k u)
    (fun k => ?_) (fun k => ?_)).trans ?_
  · funext d; fin_cases d <;> rfl
  · funext d; fin_cases d <;> rfl
  · show Ideal.ofBits .f32 0x00000000#32 + _ = _
    rw [Ideal.ofBits_zero_f32, zero_add]; rfl

theorem dot_spread (a : FVec Ideal S120x20 .f32) (b : FVec Ideal S20x400 .f32) (p : Fin 120) (c : Fin 400) :
    matmul dot_S120x20_S20x400_S120x400_1_0_0_1_n_n (some .fp32) a b (constant S120x400 .f32 0x00000000#32) (ix2 p c)
      = ∑ k : Fin 20, (a (ix2 p k) * b (ix2 k c) : EReal) := by
  refine (Ideal.matmul_apply₁_of dot_S120x20_S20x400_S120x400_1_0_0_1_n_n rfl rfl a b _ (ix2 p c) (fun k => ix2 p k) (fun k => ix2 k c)
    (fun k => ?_) (fun k => ?_)).trans ?_
  · funext d; fin_cases d <;> rfl
  · funext d; fin_cases d <;> rfl
  · show Ideal.ofBits .f32 0x00000000#32 + _ = _
    rw [Ideal.ofBits_zero_f32, zero_add]; rfl

theorem dot_place (a b : FVec Ideal S120x16 .f32) (i j : Fin 16) :
    matmul dot_S120x16_S120x16_S16x16_0_0_1_1_n_n (some .fp32) a b (constant S16x16 .f32 0x00000000#32) (ix2 i j)
      = ∑ k : Fin 120, (a (ix2 k i) * b (ix2 k j) : EReal) := by
  refine (Ideal.matmul_apply₁_of dot_S120x16_S120x16_S16x16_0_0_1_1_n_n rfl rfl a b _ (ix2 i j) (fun k => ix2 k i) (fun k => ix2 k j)
    (fun k => ?_) (fun k => ?_)).trans ?_
  · funext d; fin_cases d <;> rfl
  · funext d; fin_cases d <;> rfl
  · show Ideal.ofBits .f32 0x00000000#32 + _ = _
    rw [Ideal.ofBits_zero_f32, zero_add]; rfl

theorem sum_tiles (v : FVec Ideal S32x120x400 .f32) (p : Fin 120) (c : Fin 400) :
    multiReduction .add [0] S120x400 v 0x00000000#32 reduces_S32x120x400_S120x400 (.inl rfl) rfl (ix2 p c) = ∑ w : Fin 32, (v (ix3 w p c) : EReal) := by
  refine (Ideal.multiReduction_add_single v _ reduces_S32x120x400_S120x400 (.inl rfl) rfl (ix2 p c)).trans ?_
  refine Finset.sum_congr rfl fun w _ => congrArg v ?_
  funext d; fin_cases d <;> rfl

theorem sum_cells (v : FVec Ideal S120x400 .f32) (p : Fin 120) :
    multiReduction .add [1] S120 v 0x00000000#32 reduces_S120x400_S120 (.inl rfl) rfl (ix1 p) = ∑ c : Fin 400, (v (ix2 p c) : EReal) := by
  refine (Ideal.multiReduction_add_single v _ reduces_S120x400_S120 (.inl rfl) rfl (ix1 p)).trans ?_
  refine Finset.sum_congr rfl fun w _ => congrArg v ?_
  funext d; fin_cases d <;> rfl

theorem sum_bins (v : FVec Ideal S120x20 .f32) (p : Fin 120) :
    multiReduction .add [1] S120 v 0x00000000#32 reduces_S120x20_S120 (.inl rfl) rfl (ix1 p) = ∑ c : Fin 20, (v (ix2 p c) : EReal) := by
  refine (Ideal.multiReduction_add_single v _ reduces_S120x20_S120 (.inl rfl) rfl (ix1 p)).trans ?_
  refine Finset.sum_congr rfl fun w _ => congrArg v ?_
  funext d; fin_cases d <;> rfl

theorem col120 {α : Type} (v : S120.Idx → α) (p : Fin 120) : shapeCast S120x1 v shapeCasts_S120_S120x1 (ix2 p 0) = v (ix1 p) := by
  refine shapeCast_apply v _ _ _ ?_
  refine (Shape.rowMajor_val_one _).trans (Eq.trans ?_ (Shape.rowMajor_val_two _).symm)
  show p.val = p.val * 1 + 0
  omega

theorem bcast120 {α : Type} (v : S120x1.Idx → α) (p : Fin 120) (i : Fin 16) :
    broadcastTo S120x16 v broadcasts_S120x1_S120x16 (ix2 p i) = v (ix2 p 0) := by
  refine broadcastTo_apply v _ _ _ fun a => ?_
  fin_cases a <;> rfl

/-- A cell of a pair of bins. -/
def cell (u v : Fin 20) : Fin 400 := ⟨20 * u.val + v.val, by omega⟩

theorem sum_pairs {M : Type} [AddCommMonoid M] (f : Fin 400 → M) : ∑ c, f c = ∑ u : Fin 20, ∑ v : Fin 20, f (cell u v) := by
  rw [← Fintype.sum_equiv (finProdFinEquiv (m := 20) (n := 20)) (fun q => f (cell q.1 q.2)) f fun q => congrArg f (Fin.ext (by
    show 20 * q.1.val + q.2.val = q.2.val + 20 * q.1.val
    omega))]
  exact Fintype.sum_prod_type _

theorem cell_div (u v : Fin 20) : (cell u v).val / 20 = u.val := by unfold cell; show (20 * u.val + v.val) / 20 = _; omega
theorem cell_mod (u v : Fin 20) : (cell u v).val % 20 = v.val := by unfold cell; show (20 * u.val + v.val) % 20 = _; omega

end Cert.Proof
-- ==== Proof.Final.lean ====
/-
  The last call's matrix, from the pairs' counts.
-/
module

public import proofs.«01_k».proof.Proof.Tables
public import proofs.«01_k».proof.Proof.Dots
public import proofs.«01_k».proof.Proof.Region2

@[expose] public section

noncomputable section

namespace Cert.Proof

open Cert.KernelIdeal Cert.KernelIdeal.Gen
open Idealize.ShloMosaic hiding ix1 ix2 ix3
open Idealize.ShloMosaic.ValueIdx

/-- The tables as the last call reads them. -/
def t0 : FVec Ideal S400x20 .f32 := fun i => FloatOps.ofBits (F := Ideal) .f32 (lit0 (S400x20.rowMajor i))
def t1 : FVec Ideal S20x400 .f32 := fun i => FloatOps.ofBits (F := Ideal) .f32 (lit1 (S20x400.rowMajor i))
def t2 : FVec Ideal S400x20 .f32 := fun i => FloatOps.ofBits (F := Ideal) .f32 (lit2 (S400x20.rowMajor i))
def t3 : FVec Ideal S20x400 .f32 := fun i => FloatOps.ofBits (F := Ideal) .f32 (lit3 (S20x400.rowMajor i))
def t4 : FVec Ideal S120x16 .f32 := fun i => FloatOps.ofBits (F := Ideal) .f32 (lit4 (S120x16.rowMajor i))
def t5 : FVec Ideal S120x16 .f32 := fun i => FloatOps.ofBits (F := Ideal) .f32 (lit5 (S120x16.rowMajor i))

theorem rm400x20 (c : Fin 400) (u : Fin 20) : (S400x20.rowMajor (ix2 c u)).val = c.val * 20 + u.val := Shape.rowMajor_val_two _
theorem rm20x400 (u : Fin 20) (c : Fin 400) : (S20x400.rowMajor (ix2 u c)).val = u.val * 400 + c.val := Shape.rowMajor_val_two _
theorem rm120x16 (p : Fin 120) (i : Fin 16) : (S120x16.rowMajor (ix2 p i)).val = p.val * 16 + i.val := Shape.rowMajor_val_two _

theorem one_if (p : Bool) {q : Prop} [Decidable q] (h : p = true ↔ q) : (if p then (1 : EReal) else 0) = if q then 1 else 0 := if_congr h rfl rfl

theorem t0_apply (c : Fin 400) (u : Fin 20) : t0 (ix2 c u) = if c.val / 20 = u.val then (1 : EReal) else 0 := by
  refine (congrArg (Ideal.ofBits .f32) (lit0_eq _)).trans ((bitW_apply _).trans (one_if _ ?_))
  have h := rm400x20 c u
  have hu := u.isLt
  have e1 : (c.val * 20 + u.val) / 20 = c.val := by omega
  have e2 : (c.val * 20 + u.val) % 20 = u.val := by omega
  rw [beq_iff_eq, h, e1, e2]

theorem t2_apply (c : Fin 400) (u : Fin 20) : t2 (ix2 c u) = if c.val % 20 = u.val then (1 : EReal) else 0 := by
  refine (congrArg (Ideal.ofBits .f32) (lit2_eq _)).trans ((bitW_apply _).trans (one_if _ ?_))
  have h := rm400x20 c u
  have hu := u.isLt
  have e1 : (c.val * 20 + u.val) / 20 = c.val := by omega
  have e2 : (c.val * 20 + u.val) % 20 = u.val := by omega
  rw [beq_iff_eq, h, e1, e2]

theorem t1_apply (c : Fin 400) (u : Fin 20) : t1 (ix2 u c) = if c.val / 20 = u.val then (1 : EReal) else 0 := by
  refine (congrArg (Ideal.ofBits .f32) (lit1_eq _)).trans ((bitW_apply _).trans (one_if _ ?_))
  have h := rm20x400 u c
  have hc := c.isLt
  have e1 : (u.val * 400 + c.val) / 400 = u.val := by omega
  have e2 : (u.val * 400 + c.val) % 400 = c.val := by omega
  rw [beq_iff_eq, h, e1, e2]

theorem t3_apply (c : Fin 400) (u : Fin 20) : t3 (ix2 u c) = if c.val % 20 = u.val then (1 : EReal) else 0 := by
  refine (congrArg (Ideal.ofBits .f32) (lit3_eq _)).trans ((bitW_apply _).trans (one_if _ ?_))
  have h := rm20x400 u c
  have hc := c.isLt
  have e1 : (u.val * 400 + c.val) / 400 = u.val := by omega
  have e2 : (u.val * 400 + c.val) % 400 = c.val := by omega
  rw [beq_iff_eq, h, e1, e2]

theorem t4_apply (p : Fin 120) (i : Fin 16) : t4 (ix2 p i) = if (pr p).1 = i then (1 : EReal) else 0 := by
  refine (congrArg (Ideal.ofBits .f32) (lit4_eq _)).trans ((bitW_apply _).trans (one_if _ ?_))
  have h := rm120x16 p i
  have hi := i.isLt
  have e : (⟨(S120x16.rowMajor (ix2 p i)).val / 16, by rw [h]; omega⟩ : Fin 120) = p := Fin.ext (by show _ / 16 = p.val; rw [h]; omega)
  rw [beq_iff_eq, e, h, Fin.ext_iff]
  omega

theorem t5_apply (p : Fin 120) (i : Fin 16) : t5 (ix2 p i) = if (pr p).2 = i then (1 : EReal) else 0 := by
  refine (congrArg (Ideal.ofBits .f32) (lit5_eq _)).trans ((bitW_apply _).trans (one_if _ ?_))
  have h := rm120x16 p i
  have hi := i.isLt
  have e : (⟨(S120x16.rowMajor (ix2 p i)).val / 16, by rw [h]; omega⟩ : Fin 120) = p := Fin.ext (by show _ / 16 = p.val; rw [h]; omega)
  rw [beq_iff_eq, e, h, Fin.ext_iff]
  omega

/-- A sum against a table's row keeps the terms the row marks. -/
theorem sum_mark {ι : Type} (s : Finset ι) (f : ι → EReal) (q : ι → Prop) [DecidablePred q] :
    ∑ k ∈ s, f k * (if q k then (1 : EReal) else 0) = ∑ k ∈ s, if q k then f k else 0 := by
  refine Finset.sum_congr rfl fun k _ => ?_
  by_cases h : q k
  · rw [if_pos h, if_pos h, mul_one]
  · rw [if_neg h, if_neg h, mul_zero]

section Pairs
variable {J : Vec Ideal S32x120x400 .f32} {b : ℕ → Fin 16 → ℕ} (hb : ∀ e i, b e i < 20)
  (hJ : ∀ (p : Fin 120) (u v : Fin 20), (∑ w : Fin 32, J (ix3 w p (cell u v)) : EReal) = ((N2 b (pr p).1 (pr p).2 u.val v.val : ℕ) : EReal))
include hJ

theorem last2_apply (p : Fin 120) (u v : Fin 20) : k2_pay2 J (ix2 p (cell u v)) = ((N2 b (pr p).1 (pr p).2 u.val v.val : ℕ) : EReal) := by
  unfold k2_pay2
  rw [shapeCast_self]
  exact (sum_tiles J p (cell u v)).trans (hJ p u v)

include hb

theorem last3_apply (p : Fin 120) (u : Fin 20) : k2_pay3 J t0 (ix2 p u) = ((N1 b (pr p).1 u.val : ℕ) : EReal) := by
  unfold k2_pay3
  refine (dot_marg (k2_pay2 J) t0 p u).trans ?_
  rw [Finset.sum_congr rfl fun k _ => congrArg (k2_pay2 J (ix2 p k) * · : EReal → EReal) (t0_apply k u), sum_mark, sum_pairs]
  rw [Finset.sum_eq_single u]
  · rw [Finset.sum_congr rfl fun v _ => (if_pos (cell_div u v)).trans (last2_apply hJ p u v), ← Nat.cast_sum, N2_right hb]
  · intro u' _ hu
    refine Finset.sum_eq_zero fun v _ => if_neg fun h => hu (Fin.ext ?_)
    rw [← h, cell_div]
  · intro h; exact absurd (Finset.mem_univ _) h

theorem last4_apply (p : Fin 120) (v : Fin 20) : k2_pay4 J t2 (ix2 p v) = ((N1 b (pr p).2 v.val : ℕ) : EReal) := by
  unfold k2_pay4
  refine (dot_marg (k2_pay2 J) t2 p v).trans ?_
  rw [Finset.sum_congr rfl fun k _ => congrArg (k2_pay2 J (ix2 p k) * · : EReal → EReal) (t2_apply k v), sum_mark, sum_pairs, Finset.sum_comm]
  rw [Finset.sum_eq_single v]
  · rw [Finset.sum_congr rfl fun u _ => (if_pos (cell_mod u v)).trans (last2_apply hJ p u v), ← Nat.cast_sum, N2_left hb]
  · intro v' _ hv
    refine Finset.sum_eq_zero fun u _ => if_neg fun h => hv (Fin.ext ?_)
    rw [← h, cell_mod]
  · intro h; exact absurd (Finset.mem_univ _) h

theorem spread_left (p : Fin 120) (u v : Fin 20) :
    matmul dot_S120x20_S20x400_S120x400_1_0_0_1_n_n (some .fp32) (k2_pay3 J t0) t1 (constant S120x400 .f32 0x00000000#32) (ix2 p (cell u v))
      = ((N1 b (pr p).1 u.val : ℕ) : EReal) := by
  refine (dot_spread (k2_pay3 J t0) t1 p (cell u v)).trans ?_
  rw [Finset.sum_congr rfl fun k _ => congrArg (k2_pay3 J t0 (ix2 p k) * · : EReal → EReal) (t1_apply (cell u v) k), sum_mark]
  rw [Finset.sum_eq_single u]
  · exact (if_pos (cell_div u v)).trans (last3_apply hb hJ p u)
  · intro u' _ hu
    refine if_neg fun h => hu (Fin.ext ?_)
    rw [← h, cell_div]
  · intro h; exact absurd (Finset.mem_univ _) h

theorem spread_right (p : Fin 120) (u v : Fin 20) :
    matmul dot_S120x20_S20x400_S120x400_1_0_0_1_n_n (some .fp32) (k2_pay4 J t2) t3 (constant S120x400 .f32 0x00000000#32) (ix2 p (cell u v))
      = ((N1 b (pr p).2 v.val : ℕ) : EReal) := by
  refine (dot_spread (k2_pay4 J t2) t3 p (cell u v)).trans ?_
  rw [Finset.sum_congr rfl fun k _ => congrArg (k2_pay4 J t2 (ix2 p k) * · : EReal → EReal) (t3_apply (cell u v) k), sum_mark]
  rw [Finset.sum_eq_single v]
  · exact (if_pos (cell_mod u v)).trans (last4_apply hb hJ p v)
  · intro u' _ hu
    refine if_neg fun h => hu (Fin.ext ?_)
    rw [← h, cell_mod]
  · intro h; exact absurd (Finset.mem_univ _) h

/-- The kernel's quotient by the number of samples. -/
theorem fr_word (n : ℕ) : Ideal.div (n : EReal) (Ideal.ofBits .f32 0x49000000#32) = fr n := by rw [ofBits_total]; rfl

theorem last5_apply (p : Fin 120) : k2_pay5 J t0 t2 t1 t3 (ix2 p 0) = mi b (pr p).1 (pr p).2 := by
  unfold k2_pay5
  refine (col120 _ p).trans ((sum_cells _ p).trans ((sum_pairs _).trans ?_))
  unfold mi
  refine Finset.sum_congr rfl fun u _ => Finset.sum_congr rfl fun v _ => ?_
  have h1 := last2_apply hJ p u v
  have h2 := spread_left hb hJ p u v
  have h3 := spread_right hb hJ p u v
  show (Ideal.div (k2_pay2 J (ix2 p (cell u v))) (Ideal.ofBits .f32 0x49000000#32)
    * Ideal.log (Ideal.div (Ideal.div (k2_pay2 J (ix2 p (cell u v))) (Ideal.ofBits .f32 0x49000000#32))
      (Ideal.div (matmul dot_S120x20_S20x400_S120x400_1_0_0_1_n_n (some .fp32) (k2_pay3 J t0) t1 (constant S120x400 .f32 0x00000000#32) (ix2 p (cell u v))) (Ideal.ofBits .f32 0x49000000#32)
        * Ideal.div (matmul dot_S120x20_S20x400_S120x400_1_0_0_1_n_n (some .fp32) (k2_pay4 J t2) t3 (constant S120x400 .f32 0x00000000#32) (ix2 p (cell u v))) (Ideal.ofBits .f32 0x49000000#32))
      + Ideal.ofBits .f32 0x2EDBE6FF#32) : EReal) = _
  rw [h1, h2, h3, ofBits_total]
  rfl

theorem last7_apply (p : Fin 120) : (0 : EReal) - k2_pay7 J t0 (ix1 p) = ent b (pr p).1 := by
  unfold k2_pay7
  rw [zero_sub]
  refine congrArg (fun x : EReal => -x) ((sum_bins _ p).trans ?_)
  refine Finset.sum_congr rfl fun u _ => ?_
  show (Ideal.div (k2_pay3 J t0 (ix2 p u)) (Ideal.ofBits .f32 0x49000000#32)
    * Ideal.log (Ideal.div (k2_pay3 J t0 (ix2 p u)) (Ideal.ofBits .f32 0x49000000#32) + Ideal.ofBits .f32 0x2EDBE6FF#32) : EReal) = _
  rw [last3_apply hb hJ, ofBits_total]
  rfl

theorem last6_apply (p : Fin 120) (v : Fin 20) : k2_pay6 J t2 (ix2 p v) = fr (N1 b (pr p).2 v.val) := by
  unfold k2_pay6
  show Ideal.div (k2_pay4 J t2 (ix2 p v)) (Ideal.ofBits .f32 0x49000000#32) = _
  rw [last4_apply hb hJ, ofBits_total]
  rfl

/-- The pair's value. -/
def pairV (J : Vec Ideal S32x120x400 .f32) : FVec Ideal S120x1 .f32 :=
  subf (addf (subf (broadcast S120x1 (Scalar.ofBits .f32 0x00000000#32)) (shapeCast S120x1 (k2_pay7 J t0) shapeCasts_S120_S120x1))
      (subf (broadcast S120x1 (Scalar.ofBits .f32 0x00000000#32))
        (shapeCast S120x1 (multiReduction .add [1] S120 (mulf (k2_pay6 J t2) (log (addf (k2_pay6 J t2) (broadcast S120x20 (Scalar.ofBits .f32 0x2EDBE6FF#32)))))
          0x00000000#32 reduces_S120x20_S120 (.inl rfl) rfl) shapeCasts_S120_S120x1)))
    (mulf (broadcast S120x1 (Scalar.ofBits .f32 0x40000000#32)) (k2_pay5 J t0 t2 t1 t3))

theorem pairV_apply (p : Fin 120) : pairV J (ix2 p 0) = vi b (pr p).1 (pr p).2 := by
  unfold pairV
  have e7 := (congrArg (fun x : EReal => (0 : EReal) - x) (col120 (k2_pay7 J t0) p)).trans (last7_apply hb hJ p)
  have e6 : (0 : EReal) - shapeCast S120x1 (multiReduction .add [1] S120 (mulf (k2_pay6 J t2) (log (addf (k2_pay6 J t2) (broadcast S120x20 (Scalar.ofBits .f32 0x2EDBE6FF#32)))))
          0x00000000#32 reduces_S120x20_S120 (.inl rfl) rfl) shapeCasts_S120_S120x1 (ix2 p 0) = ent b (pr p).2 := by
    rw [zero_sub]
    refine congrArg (fun x : EReal => -x) ((col120 _ p).trans ((sum_bins _ p).trans ?_))
    refine Finset.sum_congr rfl fun u _ => ?_
    show (k2_pay6 J t2 (ix2 p u) * Ideal.log (k2_pay6 J t2 (ix2 p u) + Ideal.ofBits .f32 0x2EDBE6FF#32) : EReal) = _
    rw [last6_apply hb hJ]
    rfl
  have e5 := last5_apply hb hJ p
  unfold vi
  rw [← e7, ← e6, ← e5, ← Ideal.ofBits_zero_f32]
  rfl

end Pairs

theorem finalV_def (J : Vec Ideal S32x120x400 .f32) :
    finalV J t0 t1 t2 t3 t4 t5 = addf
      (matmul dot_S120x16_S120x16_S16x16_0_0_1_1_n_n (some .fp32) (mulf t4 (broadcastTo S120x16 (pairV J) broadcasts_S120x1_S120x16)) t5 (constant S16x16 .f32 0x00000000#32))
      (matmul dot_S120x16_S120x16_S16x16_0_0_1_1_n_n (some .fp32) (mulf t5 (broadcastTo S120x16 (pairV J) broadcasts_S120x1_S120x16)) t4 (constant S16x16 .f32 0x00000000#32)) := rfl

/-- The products with the channels' tables put each pair's value in its place. -/
theorem place (f : Fin 16 → Fin 16 → EReal) (i j : Fin 16) :
    (∑ p : Fin 120, (if (pr p).1 = i then (1 : EReal) else 0) * f (pr p).1 (pr p).2 * (if (pr p).2 = j then (1 : EReal) else 0))
      = if i < j then f i j else 0 := by
  have h : ∀ p : Fin 120, (if (pr p).1 = i then (1 : EReal) else 0) * f (pr p).1 (pr p).2 * (if (pr p).2 = j then (1 : EReal) else 0)
      = if pr p = (i, j) then f i j else 0 := by
    intro p
    by_cases h1 : (pr p).1 = i
    · by_cases h2 : (pr p).2 = j
      · rw [if_pos h1, if_pos h2, if_pos (Prod.ext h1 h2), h1, h2, one_mul, mul_one]
      · rw [if_neg h2, mul_zero, if_neg fun e => h2 (congrArg Prod.snd e)]
    · rw [if_neg h1, zero_mul, zero_mul, if_neg fun e => h1 (congrArg Prod.fst e)]
  rw [Finset.sum_congr rfl fun p _ => h p]
  by_cases hij : i < j
  · obtain ⟨p, hp⟩ := pr_of_lt i j hij
    rw [if_pos hij, Finset.sum_eq_single p, if_pos hp]
    · intro q _ hq
      exact if_neg fun e => hq (pr_inj (e.trans hp.symm))
    · intro h; exact absurd (Finset.mem_univ _) h
  · rw [if_neg hij]
    refine Finset.sum_eq_zero fun p _ => if_neg fun e => hij ?_
    have := pr_lt p
    rw [e] at this
    exact this

theorem finalV_apply {J : Vec Ideal S32x120x400 .f32} {b : ℕ → Fin 16 → ℕ} (hb : ∀ e i, b e i < 20)
    (hJ : ∀ (p : Fin 120) (u v : Fin 20), (∑ w : Fin 32, J (ix3 w p (cell u v)) : EReal) = ((N2 b (pr p).1 (pr p).2 u.val v.val : ℕ) : EReal))
    (i j : Fin 16) : finalV J t0 t1 t2 t3 t4 t5 (ix2 i j) = viM b i j := by
  rw [finalV_def]
  have hv : ∀ (p : Fin 120) (i : Fin 16), broadcastTo S120x16 (pairV J) broadcasts_S120x1_S120x16 (ix2 p i) = vi b (pr p).1 (pr p).2 :=
    fun p i => (bcast120 _ p i).trans (pairV_apply hb hJ p)
  have h1 : matmul dot_S120x16_S120x16_S16x16_0_0_1_1_n_n (some .fp32) (mulf t4 (broadcastTo S120x16 (pairV J) broadcasts_S120x1_S120x16)) t5 (constant S16x16 .f32 0x00000000#32) (ix2 i j)
      = if i < j then vi b i j else 0 := by
    refine (dot_place _ t5 i j).trans (Eq.trans (Finset.sum_congr rfl fun p _ => ?_) (place (vi b) i j))
    show (t4 (ix2 p i) * broadcastTo S120x16 (pairV J) broadcasts_S120x1_S120x16 (ix2 p i) * t5 (ix2 p j) : EReal) = _
    rw [hv, t4_apply, t5_apply]
  have h2 : matmul dot_S120x16_S120x16_S16x16_0_0_1_1_n_n (some .fp32) (mulf t5 (broadcastTo S120x16 (pairV J) broadcasts_S120x1_S120x16)) t4 (constant S16x16 .f32 0x00000000#32) (ix2 i j)
      = if j < i then vi b j i else 0 := by
    refine (dot_place _ t4 i j).trans (Eq.trans (Finset.sum_congr rfl fun p _ => ?_) (place (vi b) j i))
    show (t5 (ix2 p i) * broadcastTo S120x16 (pairV J) broadcasts_S120x1_S120x16 (ix2 p i) * t4 (ix2 p j) : EReal) = _
    rw [hv, t4_apply, t5_apply]
    ac_rfl
  show (_ + _ : EReal) = _
  rw [h1, h2]
  rfl

end Cert.Proof
-- ==== Proof.MinMax.lean ====
/-
  The first call's running least and greatest sample, characterised by their bounds.
-/
module

public import proofs.«01_k».proof.Proof.Values
public import proofs.«01_k».proof.Proof.Stat
public import Idealize.ShloMosaic.Lib.ValueLayout
public import Idealize.ShloMosaic.Lib.Pipeline.Value

@[expose] public section

noncomputable section

namespace Cert.Proof

open Cert.KernelIdeal Cert.KernelIdeal.Gen
open Idealize.ShloMosaic
open Idealize.ShloMosaic.ValueIdx

theorem ofBits_top : Ideal.ofBits .f32 0x7F800000#32 = (⊤ : EReal) := by simp [Ideal.ofBits, Ideal.ieee]
theorem ofBits_bot : Ideal.ofBits .f32 0xFF800000#32 = (⊥ : EReal) := by simp [Ideal.ofBits, Ideal.ieee]

theorem lift16 (c : Fin 16) (r : Fin 4096) : reduces_S4096x16_S16.lift (ix1 c) r = ix2 r c := by funext d; fin_cases d <;> rfl

theorem min16_fold (v : FVec Ideal S4096x16 .f32) (c : Fin 16) :
    multiReduction .minimumf [0] S16 v 0x7F800000#32 reduces_S4096x16_S16 (.inl rfl) rfl (ix1 c)
      = (Finset.univ : Finset (Fin 4096)).fold min (Ideal.ofBits .f32 0x7F800000#32) (v ∘ reduces_S4096x16_S16.lift (ix1 c) : Fin 4096 → EReal) :=
  (multiReduction_minimumf_eq_fold v _ reduces_S4096x16_S16 (.inl rfl) rfl (ix1 c)).trans (reduces_S4096x16_S16.fold_filter_drop_single _ _ _ _)

theorem max16_fold (v : FVec Ideal S4096x16 .f32) (c : Fin 16) :
    multiReduction .maximumf [0] S16 v 0xFF800000#32 reduces_S4096x16_S16 (.inl rfl) rfl (ix1 c)
      = (Finset.univ : Finset (Fin 4096)).fold max (Ideal.ofBits .f32 0xFF800000#32) (v ∘ reduces_S4096x16_S16.lift (ix1 c) : Fin 4096 → EReal) :=
  (multiReduction_maximumf_eq_fold v _ reduces_S4096x16_S16 (.inl rfl) rfl (ix1 c)).trans (reduces_S4096x16_S16.fold_filter_drop_single _ _ _ _)

theorem le_min16 (v : FVec Ideal S4096x16 .f32) (c : Fin 16) (y : EReal) :
    (y ≤ multiReduction .minimumf [0] S16 v 0x7F800000#32 reduces_S4096x16_S16 (.inl rfl) rfl (ix1 c)) ↔ ∀ r : Fin 4096, y ≤ v (ix2 r c) := by
  refine (iff_of_eq (congrArg (fun z : EReal => y ≤ z) (min16_fold v c))).trans ((Finset.le_fold_min y).trans ?_)
  rw [ofBits_top]
  exact ⟨fun h r => le_of_le_of_eq (h.2 r (Finset.mem_univ _)) (congrArg v (lift16 c r)), fun h => ⟨le_top, fun r _ => le_of_le_of_eq (h r) (congrArg v (lift16 c r)).symm⟩⟩

theorem max16_le (v : FVec Ideal S4096x16 .f32) (c : Fin 16) (y : EReal) :
    ((multiReduction .maximumf [0] S16 v 0xFF800000#32 reduces_S4096x16_S16 (.inl rfl) rfl (ix1 c) : EReal) ≤ y) ↔ ∀ r : Fin 4096, v (ix2 r c) ≤ y := by
  refine (iff_of_eq (congrArg (fun z : EReal => z ≤ y) (max16_fold v c))).trans ((Finset.fold_max_le y).trans ?_)
  rw [ofBits_bot]
  exact ⟨fun h r => le_of_eq_of_le (congrArg v (lift16 c r)).symm (h.2 r (Finset.mem_univ _)), fun h => ⟨bot_le, fun r _ => le_of_eq_of_le (congrArg v (lift16 c r)) (h r)⟩⟩

theorem pay5_min (v : FVec Ideal S4096x16 .f32) (a : FVec Ideal S1x16 .f32) (c : Fin 16) :
    k0_pay5 v a (ix2 0 c) = min (a (ix2 0 c) : EReal) (multiReduction .minimumf [0] S16 v 0x7F800000#32 reduces_S4096x16_S16 (.inl rfl) rfl (ix1 c) : EReal) := by
  unfold k0_pay5 k0_pay3
  rw [shapeCast_self, shapeCast_self]
  exact congrArg (fun z : EReal => min (a (ix2 0 c) : EReal) z) (shapeCast_a_1a_apply _ _ 0 c)

theorem pay6_max (v : FVec Ideal S4096x16 .f32) (a : FVec Ideal S1x16 .f32) (c : Fin 16) :
    k0_pay6 v a (ix2 0 c) = max (a (ix2 0 c) : EReal) (multiReduction .maximumf [0] S16 v 0xFF800000#32 reduces_S4096x16_S16 (.inl rfl) rfl (ix1 c) : EReal) := by
  unfold k0_pay6 k0_pay3
  rw [shapeCast_self, shapeCast_self]
  exact congrArg (fun z : EReal => max (a (ix2 0 c) : EReal) z) (shapeCast_a_1a_apply _ _ 0 c)

/-- The sample of row `e`. -/
def rowAt (X : Vec Ideal S524288x16 .f32) (e : ℕ) (c : Fin 16) : EReal := X (ix2 ⟨e % 524288, Nat.mod_lt _ (by decide)⟩ c)

theorem split_rows (P : ℕ → Prop) (n : ℕ) : (∀ e, e < (n + 1) * 4096 → P e) ↔ (∀ e, e < n * 4096 → P e) ∧ ∀ r : Fin 4096, P (n * 4096 + r.val) := by
  refine ⟨fun h => ⟨fun e he => h e (lt_of_lt_of_le he (Nat.mul_le_mul_right _ (Nat.le_succ n))), fun r => h _ (by rw [Nat.succ_mul]; exact Nat.add_lt_add_left r.isLt _)⟩, fun h e he => ?_⟩
  by_cases q : e < n * 4096
  · exact h.1 e q
  · rw [Nat.succ_mul] at he
    have := h.2 ⟨e - n * 4096, by omega⟩
    rwa [show n * 4096 + (e - n * 4096) = e by omega] at this

theorem le_mnS (X : Vec Ideal S524288x16 .f32) (c : Fin 16) (y : EReal) : ∀ n : ℕ, y ≤ mnS X n (ix2 0 c) ↔ ∀ e, e < n * 4096 → y ≤ rowAt X e c
  | 0 => by
    have h : mnS X 0 (ix2 0 c) = (⊤ : EReal) := by
      show k0_pay1 (F := Ideal) (ix2 0 c) = _
      unfold k0_pay1
      rw [shapeCast_self]
      exact ofBits_top
    rw [h]
    exact ⟨fun _ e he => absurd he (by omega), fun _ => le_top⟩
  | n + 1 => by
    refine (iff_of_eq (congrArg (fun z : EReal => y ≤ z) (pay5_min (rowsV X n) (mnS X n) c))).trans ?_
    rw [split_rows, ← le_mnS X c y n, le_min_iff]
    exact and_congr Iff.rfl (le_min16 (rowsV X n) c y)

theorem mxS_le (X : Vec Ideal S524288x16 .f32) (c : Fin 16) (y : EReal) : ∀ n : ℕ, mxS X n (ix2 0 c) ≤ y ↔ ∀ e, e < n * 4096 → rowAt X e c ≤ y
  | 0 => by
    have h : mxS X 0 (ix2 0 c) = (⊥ : EReal) := by
      show k0_pay2 (F := Ideal) (ix2 0 c) = _
      unfold k0_pay2
      rw [shapeCast_self]
      exact ofBits_bot
    rw [h]
    exact ⟨fun _ e he => absurd he (by omega), fun _ => bot_le⟩
  | n + 1 => by
    refine (iff_of_eq (congrArg (fun z : EReal => z ≤ y) (pay6_max (rowsV X n) (mxS X n) c))).trans ?_
    rw [split_rows, ← mxS_le X c y n, max_le_iff]
    exact and_congr Iff.rfl (max16_le (rowsV X n) c y)

variable (x : Vec Ideal S8x65536x16 .f32)

/-- The sample of row `e` of the argument. -/
def smp (e : ℕ) (c : Fin 16) : EReal := x (ix3 ⟨e / 65536 % 8, Nat.mod_lt _ (by decide)⟩ ⟨e % 65536, Nat.mod_lt _ (by decide)⟩ c)

theorem rows_at (e : ℕ) (he : e < 524288) (c : Fin 16) : rows x (ix2 ⟨e, he⟩ c) = smp x e c := by
  unfold rows smp
  refine shapeCast_apply x _ _ _ ?_
  refine (Shape.rowMajor_val_three _).trans (Eq.trans ?_ (Shape.rowMajor_val_two _).symm)
  show (e / 65536 % 8 * 65536 + e % 65536) * 16 + c.val = e * 16 + c.val
  omega

theorem rowAt_rows (e : ℕ) (c : Fin 16) (he : e < 524288) : rowAt (rows x) e c = smp x e c := by
  unfold rowAt
  rw [← rows_at x e he c]
  exact congrArg (fun k => rows x (ix2 k c)) (Fin.ext (Nat.mod_eq_of_lt he))

theorem le_ends (c : Fin 16) (y : EReal) : y ≤ ends x (ix2 0 c) ↔ ∀ e, e < 524288 → y ≤ smp x e c := by
  refine (le_mnS (rows x) c y 128).trans (forall_congr' fun e => ?_)
  show (e < 524288 → _) ↔ _
  exact ⟨fun h he => le_of_le_of_eq (h he) (rowAt_rows x e c he), fun h he => le_of_le_of_eq (h he) (rowAt_rows x e c he).symm⟩

theorem ends_le (c : Fin 16) (y : EReal) : ends x (ix2 1 c) ≤ y ↔ ∀ e, e < 524288 → smp x e c ≤ y := by
  refine (mxS_le (rows x) c y 128).trans (forall_congr' fun e => ?_)
  show (e < 524288 → _) ↔ _
  exact ⟨fun h he => le_of_eq_of_le (rowAt_rows x e c he).symm (h he), fun h he => le_of_eq_of_le (rowAt_rows x e c he) (h he)⟩

end Cert.Proof
-- ==== Proof.KMat.lean ====
/-
  The kernel's matrix, from the samples' bins.
-/
module

public import proofs.«01_k».proof.Proof.Final
public import proofs.«01_k».proof.Proof.MinMax
public import Idealize.ShloMosaic.Lib.IdealHost

@[expose] public section

noncomputable section

namespace Cert.Proof

open Cert.KernelIdeal Cert.KernelIdeal.Gen
open Idealize.ShloMosaic hiding ix1 ix2 ix3
open Idealize.ShloMosaic.ValueIdx

variable (x : Vec Ideal S8x65536x16 .f32)

/-- The bin of row `e` and channel `c`. -/
def bins (e : ℕ) (c : Fin 16) : ℕ := binX (xtV (rows x)) (ends x) e c

theorem bins_lt (e : ℕ) (c : Fin 16) : bins x e c < 20 := binX_lt _ _ e c

theorem bins_eq (e : ℕ) (he : e < 524288) (c : Fin 16) : bins x e c = (binE (ends x (ix2 0 c)) (ends x (ix2 1 c)) (smp x e c)).toNat := by
  rw [← rowAt_rows x e c he]
  rfl

theorem zeros_count : IsCount (zeros (F := Ideal)) fun _ => 0 := fun i =>
  (broadcastInDim_scalar_apply bcast_S_S48000 _ i).trans (Ideal.ofBits_zero_f32.trans Nat.cast_zero.symm)

theorem parts_apply (w : Fin 32) (p : Fin 120) (c : Fin 400) (k : Fin 48000) (hk : k.val = 400 * p.val + c.val) :
    parts x (ix3 w p c) = histBuf (xtV (rows x)) (ends x) zeros (ix2 w k) := by
  unfold parts
  refine shapeCast_apply _ _ _ _ ?_
  refine (Shape.rowMajor_val_two _).trans (Eq.trans ?_ (Shape.rowMajor_val_three _).symm)
  show w.val * 48000 + k.val = (w.val * 120 + p.val) * 400 + c.val
  rw [hk]
  ring

theorem parts_sum (p : Fin 120) (u v : Fin 20) :
    (∑ w : Fin 32, parts x (ix3 w p (cell u v)) : EReal) = ((N2 (bins x) (pr p).1 (pr p).2 u.val v.val : ℕ) : EReal) := by
  have hlt : 400 * p.val + 20 * u.val + v.val < 48000 := by have := p.isLt; have := u.isLt; have := v.isLt; omega
  refine Eq.trans (Finset.sum_congr rfl fun w _ => parts_apply x w p (cell u v) ⟨_, hlt⟩ ?_) (cell_count (xtV (rows x)) (ends x) zeros zeros_count p u v ⟨_, hlt⟩ rfl)
  show 400 * p.val + 20 * u.val + v.val = 400 * p.val + (20 * u.val + v.val)
  omega

theorem mat_apply (i j : Fin 16) : mat x (ix2 i j) = viM (bins x) i j :=
  finalV_apply (bins_lt x) (parts_sum x) i j

end Cert.Proof
-- ==== Proof.RefBin.lean ====
/-
  The reference's bins are the kernel's.
-/
module

public import proofs.«01_k».proof.Proof.RefDef
public import proofs.«01_k».proof.Proof.KMat

@[expose] public section

noncomputable section

namespace Cert.Proof.Ref

open Cert.ReferenceIdeal Cert.ReferenceIdeal.Gen
open Idealize.ShloMosaic hiding ix1 ix2 ix3
open Idealize.ShloMosaic.ValueIdx

variable (x : FVec Ideal S8x65536x16 .f32)

theorem drop_iff (i : S8x65536x16.Idx) (c : Fin 16) : reducesTo_S8x65536x16_S16_d0_1.drop i = ix1 c ↔ i 2 = c := by
  have h : (reducesTo_S8x65536x16_S16_d0_1.drop i 0 : ℕ) = (i 2 : ℕ) := Shape.ReducesTo.drop_apply_val_of_eq _ i 0 2
  constructor
  · intro e
    rw [e] at h
    exact Fin.ext h.symm
  · intro e
    funext d
    fin_cases d
    exact Fin.ext (h.trans (congrArg Fin.val e))

/-- A bound over a channel's samples, in either of the two orders. -/
theorem all_samples (P : EReal → Prop) (c : Fin 16) :
    (∀ i, i ∈ (Finset.univ.filter fun i => reducesTo_S8x65536x16_S16_d0_1.drop i = ix1 c) → P (x i)) ↔ ∀ e, e < 524288 → P (smp x e c) := by
  constructor
  · intro h e _
    exact h _ (Finset.mem_filter.2 ⟨Finset.mem_univ _, (drop_iff _ c).2 rfl⟩)
  · intro h i hi
    have hc := (drop_iff i c).1 (Finset.mem_filter.1 hi).2
    have h0 : (i 0).val < 8 := (i 0).isLt
    have h1 : (i 1).val < 65536 := (i 1).isLt
    have e1 : ((i 0).val * 65536 + (i 1).val) / 65536 % 8 = (i 0).val := by omega
    have e2 : ((i 0).val * 65536 + (i 1).val) % 65536 = (i 1).val := by omega
    have := h ((i 0).val * 65536 + (i 1).val) (by omega)
    have e : smp x ((i 0).val * 65536 + (i 1).val) c = x i := by
      unfold smp
      refine congrArg x ?_
      funext d
      fin_cases d
      · exact Fin.ext e1
      · exact Fin.ext e2
      · exact hc.symm
    rwa [e] at this

theorem rMin_fold (c : Fin 16) : rMin x (ix1 c) = (Finset.univ.filter fun i => reducesTo_S8x65536x16_S16_d0_1.drop i = ix1 c).fold min (Ideal.ofBits .f32 0x7F800000#32) (x : S8x65536x16.Idx → EReal) :=
  Host.reduce_eq_fold _ x _ reducesTo_S8x65536x16_S16_d0_1 h_S_ (ix1 c)
theorem rMax_fold (c : Fin 16) : rMax x (ix1 c) = (Finset.univ.filter fun i => reducesTo_S8x65536x16_S16_d0_1.drop i = ix1 c).fold max (Ideal.ofBits .f32 0xFF800000#32) (x : S8x65536x16.Idx → EReal) :=
  Host.reduce_eq_fold _ x _ reducesTo_S8x65536x16_S16_d0_1 h_S_ (ix1 c)

theorem rMin_apply (c : Fin 16) : rMin x (ix1 c) = ends (F := Ideal) x (ix2 0 c) := by
  rw [rMin_fold]
  refine eq_of_forall_le_iff fun y => ((Finset.le_fold_min y).trans ?_).trans (le_ends x c y).symm
  rw [ofBits_top]
  exact (and_iff_right le_top).trans (all_samples x (fun z => y ≤ z) c)

theorem rMax_apply (c : Fin 16) : rMax x (ix1 c) = ends (F := Ideal) x (ix2 1 c) := by
  rw [rMax_fold]
  refine eq_of_forall_ge_iff fun y => ((Finset.fold_max_le y).trans ?_).trans (ends_le x c y).symm
  rw [ofBits_bot]
  exact (and_iff_right bot_le).trans (all_samples x (fun z => z ≤ y) c)

theorem chan_apply (v : FVec Ideal S16 .f32) (a : Fin 8) (b : Fin 65536) (c : Fin 16) : chan v (ix3 a b c) = v (ix1 c) := by
  unfold chan
  refine (broadcastInDim_apply _ _ _ _ (ix3 0 0 c) fun d => ?_).trans (broadcastInDim_apply _ _ _ _ (ix1 c) fun d => ?_)
  · fin_cases d <;> rfl
  · fin_cases d; rfl

theorem width_at (hi lo : FVec Ideal S16 .f32) (i : S16.Idx) :
    Host.divf (subf hi lo) (broadcastInDim S16 ![] bcast_S_S16 (constant S_ .f32 0x41A00000#32)) i = Ideal.div (hi i - lo i : EReal) (Ideal.ofBits .f32 0x41A00000#32) := rfl

theorem rWid_apply (c : Fin 16) : rWid x (ix1 c) = Ideal.div (ends (F := Ideal) x (ix2 1 c) - ends (F := Ideal) x (ix2 0 c) : EReal) (Ideal.ofBits .f32 0x41A00000#32) := by
  unfold rWid
  rw [width_at, rMin_apply, rMax_apply]

theorem clip_at (y lo wd : FVec Ideal S8x65536x16 .f32) (i : S8x65536x16.Idx) :
    minsi (broadcastInDim S8x65536x16 ![] bcast_S_S8x65536x16 (id (constantI S_ 32 19#32)))
      (maxsi (broadcastInDim S8x65536x16 ![] bcast_S_S8x65536x16 (id (constantI S_ 32 0#32))) (fptosi 32 (Host.divf (subf y lo) wd))) i
      = IntOp.minsi 19#32 (IntOp.maxsi 0#32 (Ideal.fptosi 32 (Ideal.div (y i - lo i : EReal) (wd i)))) := rfl

theorem rBin_apply (a : Fin 8) (b : Fin 65536) (c : Fin 16) : rBin x (ix3 a b c) = binE (ends (F := Ideal) x (ix2 0 c)) (ends (F := Ideal) x (ix2 1 c)) (x (ix3 a b c)) := by
  unfold rBin binE
  rw [clip_at, chan_apply, chan_apply, rWid_apply, rMin_apply]

theorem rRow_apply (e : Fin 524288) (c : Fin 16) : (rRow x (ix2 e c)).toNat = bins x e.val c := by
  have he := e.isLt
  rw [bins_eq x e.val he c]
  refine congrArg BitVec.toNat (Eq.trans ?_ (rBin_apply x ⟨e.val / 65536 % 8, Nat.mod_lt _ (by decide)⟩ ⟨e.val % 65536, Nat.mod_lt _ (by decide)⟩ c))
  unfold rRow
  refine shapeCast_apply _ _ _ _ ?_
  refine (Shape.rowMajor_val_three _).trans (Eq.trans ?_ (Shape.rowMajor_val_two _).symm)
  show (e.val / 65536 % 8 * 65536 + e.val % 65536) * 16 + c.val = e.val * 16 + c.val
  omega

theorem rHot_apply (q : IVec S524288x16 32) (e : Fin 524288) (c : Fin 16) (u : Fin 20) :
    (rHot q : FVec Ideal _ .f32) (ix3 e c u) = if (q (ix2 e c)).toNat = u.val then (1 : EReal) else 0 := by
  have h1 : broadcastInDim S524288x16x20 ![0, 1, 2] bcast_S524288x16x1_S524288x16x20_0_1_2 (broadcastInDim S524288x16x1 ![0, 1] bcast_S524288x16_S524288x16x1_0_1 q) (ix3 e c u) = q (ix2 e c) := by
    refine (broadcastInDim_apply _ _ _ _ (ix3 e c 0) fun d => ?_).trans (broadcastInDim_apply _ _ _ _ (ix2 e c) fun d => ?_)
    · fin_cases d <;> rfl
    · fin_cases d <;> rfl
  have h2 : broadcastInDim S524288x16x20 ![0, 1, 2] bcast_S1x1x20_S524288x16x20_0_1_2 (broadcastInDim S1x1x20 ![2] bcast_S20_S1x1x20_2 (iotaInDim S20 32 0)) (ix3 e c u) = BitVec.ofNat 32 u.val := by
    refine (broadcastInDim_apply _ _ _ _ (ix3 0 0 u) fun d => ?_).trans (broadcastInDim_apply _ _ _ _ (ix1 u) fun d => ?_)
    · fin_cases d <;> rfl
    · fin_cases d; rfl
  have h3 : (rHot q : FVec Ideal _ .f32) (ix3 e c u) = ((((BitVec.ofBool (q (ix2 e c) == BitVec.ofNat 32 u.val)).toNat : ℕ) : ℝ) : EReal) := by
    rw [← h1, ← h2]
    rfl
  rw [h3]
  have hu := u.isLt
  by_cases h : (q (ix2 e c)).toNat = u.val
  · rw [if_pos h, beq_iff_eq.2 (BitVec.eq_of_toNat_eq (h.trans (by rw [BitVec.toNat_ofNat]; omega)))]
    simp
  · rw [if_neg h, beq_eq_false_iff_ne.2 fun e' => h (by rw [e', BitVec.toNat_ofNat]; omega)]
    simp

end Cert.Proof.Ref
-- ==== Proof.RefVal.lean ====
/-
  The reference's matrix, from the samples' bins.
-/
module

public import proofs.«01_k».proof.Proof.RefBin

@[expose] public section

noncomputable section

namespace Cert.Proof.Ref

open Cert.ReferenceIdeal Cert.ReferenceIdeal.Gen
open Idealize.ShloMosaic hiding ix1 ix2 ix3 ix4
open Idealize.ShloMosaic.ValueIdx

theorem red_rows : S524288x16x20.Reduces [0] S16x20 := ⟨rfl, by decide, by decide⟩
theorem red_bins : S16x20.Reduces [1] S16 := ⟨rfl, by decide, by decide⟩
theorem red_second : S16x16x20x20.Reduces [3] S16x16x20 := ⟨rfl, by decide, by decide⟩
theorem red_first : S16x16x20x20.Reduces [2] S16x16x20 := ⟨rfl, by decide, by decide⟩

theorem zro_at : (zro (F := Ideal)) (Shape.Idx.first h_S_) = (0 : EReal) := Ideal.ofBits_zero_f32

theorem sum_rows (v : FVec Ideal S524288x16x20 .f32) (c : Fin 16) (u : Fin 20) :
    Host.reduceAdd v zro reducesTo_S524288x16x20_S16x20_d0 h_S_ (ix2 c u) = ∑ e : Fin 524288, (v (ix3 e c u) : EReal) := by
  rw [hostReduceAdd_apply, zro_at]
  refine (Ideal.hostReduceAdd_single reducesTo_S524288x16x20_S16x20_d0 red_rows v 0 (ix2 c u)).trans ((zero_add _).trans ?_)
  refine Finset.sum_congr rfl fun e _ => congrArg v ?_
  funext d; fin_cases d <;> rfl

theorem sum_line (v : FVec Ideal S16x20 .f32) (c : Fin 16) :
    Host.reduceAdd v zro reducesTo_S16x20_S16_d1 h_S_ (ix1 c) = ∑ u : Fin 20, (v (ix2 c u) : EReal) := by
  rw [hostReduceAdd_apply, zro_at]
  refine (Ideal.hostReduceAdd_single reducesTo_S16x20_S16_d1 red_bins v 0 (ix1 c)).trans ((zero_add _).trans ?_)
  refine Finset.sum_congr rfl fun e _ => congrArg v ?_
  funext d; fin_cases d <;> rfl

theorem sum_second (v : FVec Ideal S16x16x20x20 .f32) (p q : Fin 16) (r : Fin 20) :
    Host.reduceAdd v zro reducesTo_S16x16x20x20_S16x16x20_d3 h_S_ (ix3 p q r) = ∑ s : Fin 20, (v (ix4 p q r s) : EReal) := by
  rw [hostReduceAdd_apply, zro_at]
  refine (Ideal.hostReduceAdd_single reducesTo_S16x16x20x20_S16x16x20_d3 red_second v 0 (ix3 p q r)).trans ((zero_add _).trans ?_)
  refine Finset.sum_congr rfl fun e _ => congrArg v ?_
  funext d; fin_cases d <;> rfl

theorem sum_first (v : FVec Ideal S16x16x20x20 .f32) (p q : Fin 16) (s : Fin 20) :
    Host.reduceAdd v zro reducesTo_S16x16x20x20_S16x16x20_d2 h_S_ (ix3 p q s) = ∑ r : Fin 20, (v (ix4 p q r s) : EReal) := by
  rw [hostReduceAdd_apply, zro_at]
  refine (Ideal.hostReduceAdd_single reducesTo_S16x16x20x20_S16x16x20_d2 red_first v 0 (ix3 p q s)).trans ((zero_add _).trans ?_)
  refine Finset.sum_congr rfl fun e _ => congrArg v ?_
  funext d; fin_cases d <;> rfl

theorem drop_pair (i : S16x16x20x20.Idx) (p q : Fin 16) : reducesTo_S16x16x20x20_S16x16_d2_3.drop i = ix2 p q ↔ i 0 = p ∧ i 1 = q := by
  have h0 : (reducesTo_S16x16x20x20_S16x16_d2_3.drop i 0 : ℕ) = (i 0 : ℕ) := Shape.ReducesTo.drop_apply_val_of_eq _ i 0 0
  have h1 : (reducesTo_S16x16x20x20_S16x16_d2_3.drop i 1 : ℕ) = (i 1 : ℕ) := Shape.ReducesTo.drop_apply_val_of_eq _ i 1 1
  constructor
  · intro e
    rw [e] at h0 h1
    exact ⟨Fin.ext h0.symm, Fin.ext h1.symm⟩
  · intro e
    funext d
    fin_cases d
    · exact Fin.ext (h0.trans (congrArg Fin.val e.1))
    · exact Fin.ext (h1.trans (congrArg Fin.val e.2))

theorem sum_both (v : FVec Ideal S16x16x20x20 .f32) (p q : Fin 16) :
    Host.reduceAdd v zro reducesTo_S16x16x20x20_S16x16_d2_3 h_S_ (ix2 p q) = ∑ r : Fin 20, ∑ s : Fin 20, (v (ix4 p q r s) : EReal) := by
  rw [hostReduceAdd_apply, zro_at]
  show (0 : EReal) + ∑ i ∈ Finset.univ.filter (fun i => reducesTo_S16x16x20x20_S16x16_d2_3.drop i = ix2 p q), (v i : EReal) = _
  rw [zero_add, ← Fintype.sum_prod_type' (fun r s => (v (ix4 p q r s) : EReal))]
  symm
  refine Finset.sum_bij (fun rs _ => ix4 p q rs.1 rs.2) (fun rs _ => ?_) (fun a _ b _ e => ?_) (fun i hi => ?_) (fun rs _ => rfl)
  · exact Finset.mem_filter.2 ⟨Finset.mem_univ _, (drop_pair _ p q).2 ⟨rfl, rfl⟩⟩
  · exact Prod.ext (congrFun e 2) (congrFun e 3)
  · obtain ⟨e0, e1⟩ := (drop_pair i p q).1 (Finset.mem_filter.1 hi).2
    refine ⟨(i 2, i 3), Finset.mem_univ _, ?_⟩
    funext d
    fin_cases d
    · exact e0.symm
    · exact e1.symm
    · rfl
    · rfl

theorem dot_rows (o : FVec Ideal S524288x16x20 .f32) (a : Fin 16) (s : Fin 20) (b : Fin 16) (r : Fin 20) :
    Host.dotGeneral dot_S524288x16x20_S524288x16x20_S16x20x16x20_0_0_12_12_n_n none o o (ix4 a s b r)
      = ∑ e : Fin 524288, (o (ix3 e a s) * o (ix3 e b r) : EReal) := by
  refine (Ideal.matmul_apply₁_of dot_S524288x16x20_S524288x16x20_S16x20x16x20_0_0_12_12_n_n rfl rfl o o (fun _ => 0) (ix4 a s b r)
    (fun e => ix3 e a s) (fun e => ix3 e b r) (fun k => ?_) (fun k => ?_)).trans (zero_add _)
  · funext d; fin_cases d <;> rfl
  · funext d; fin_cases d <;> rfl

theorem rJoin_at (o : FVec Ideal S524288x16x20 .f32) (p q : Fin 16) (r s : Fin 20) :
    rJoin o (ix4 p q r s) = ∑ e : Fin 524288, (o (ix3 e q s) * o (ix3 e p r) : EReal) := by
  unfold rJoin
  refine (transpose_apply _ _ _ _ (ix4 q s p r) fun d => ?_).trans (dot_rows o q s p r)
  fin_cases d <;> rfl

section Bins
variable {b : ℕ → Fin 16 → ℕ} (hb : ∀ e i, b e i < 20) {o : FVec Ideal S524288x16x20 .f32}
  (ho : ∀ (e : Fin 524288) (c : Fin 16) (u : Fin 20), o (ix3 e c u) = if b e.val c = u.val then (1 : EReal) else 0)
include ho

theorem rHist_apply (c : Fin 16) (u : Fin 20) : rHist o (ix2 c u) = ((N1 b c u.val : ℕ) : EReal) := by
  unfold rHist N1
  rw [sum_rows, Finset.sum_range, Nat.cast_sum]
  refine Finset.sum_congr rfl fun e _ => (ho e c u).trans ?_
  by_cases h : b e.val c = u.val <;> simp [h]

theorem rJoin_apply (p q : Fin 16) (r s : Fin 20) : rJoin o (ix4 p q r s) = ((N2 b p q r.val s.val : ℕ) : EReal) := by
  unfold N2
  rw [rJoin_at, Finset.sum_range, Nat.cast_sum]
  refine Finset.sum_congr rfl fun e _ => ?_
  rw [ho, ho]
  by_cases h : b e.val p = r.val <;> by_cases h' : b e.val q = s.val <;> simp [h, h']
end Bins

section Shares
variable {b : ℕ → Fin 16 → ℕ} (hb : ∀ e i, b e i < 20) {h : FVec Ideal S16x20 .f32} (hh : ∀ (c : Fin 16) (u : Fin 20), h (ix2 c u) = ((N1 b c u.val : ℕ) : EReal))
  {j : FVec Ideal S16x16x20x20 .f32} (hj : ∀ (p q : Fin 16) (r s : Fin 20), j (ix4 p q r s) = ((N2 b p q r.val s.val : ℕ) : EReal))

theorem lineB (v : FVec Ideal S16 .f32) (c : Fin 16) (u : Fin 20) :
    broadcastInDim S16x20 ![0, 1] bcast_S16x1_S16x20_0_1 (broadcastInDim S16x1 ![0] bcast_S16_S16x1_0 v) (ix2 c u) = v (ix1 c) := by
  refine (broadcastInDim_apply _ _ _ _ (ix2 c 0) fun d => ?_).trans (broadcastInDim_apply _ _ _ _ (ix1 c) fun d => ?_)
  · fin_cases d <;> rfl
  · fin_cases d; rfl

theorem pairB (v : FVec Ideal S16x16 .f32) (p q : Fin 16) (r s : Fin 20) :
    broadcastInDim S16x16x20x20 ![0, 1, 2, 3] bcast_S16x16x1x1_S16x16x20x20_0_1_2_3 (broadcastInDim S16x16x1x1 ![0, 1] bcast_S16x16_S16x16x1x1_0_1 v) (ix4 p q r s) = v (ix2 p q) := by
  refine (broadcastInDim_apply _ _ _ _ (ix4 p q 0 0) fun d => ?_).trans (broadcastInDim_apply _ _ _ _ (ix2 p q) fun d => ?_)
  · fin_cases d <;> rfl
  · fin_cases d <;> rfl

theorem firstB (v : FVec Ideal S16x16x20 .f32) (p q : Fin 16) (r s : Fin 20) :
    broadcastInDim S16x16x20x20 ![0, 1, 2, 3] bcast_S16x16x20x1_S16x16x20x20_0_1_2_3 (broadcastInDim S16x16x20x1 ![0, 1, 2] bcast_S16x16x20_S16x16x20x1_0_1_2 v) (ix4 p q r s) = v (ix3 p q r) := by
  refine (broadcastInDim_apply _ _ _ _ (ix4 p q r 0) fun d => ?_).trans (broadcastInDim_apply _ _ _ _ (ix3 p q r) fun d => ?_)
  · fin_cases d <;> rfl
  · fin_cases d <;> rfl

theorem secondB (v : FVec Ideal S16x16x20 .f32) (p q : Fin 16) (r s : Fin 20) :
    broadcastInDim S16x16x20x20 ![0, 1, 2, 3] bcast_S16x16x1x20_S16x16x20x20_0_1_2_3 (broadcastInDim S16x16x1x20 ![0, 1, 3] bcast_S16x16x20_S16x16x1x20_0_1_3 v) (ix4 p q r s) = v (ix3 p q s) := by
  refine (broadcastInDim_apply _ _ _ _ (ix4 p q 0 s) fun d => ?_).trans (broadcastInDim_apply _ _ _ _ (ix3 p q s) fun d => ?_)
  · fin_cases d <;> rfl
  · fin_cases d <;> rfl

theorem rowB_apply {α : Type} (v : S16.Idx → α) (i k : Fin 16) : rowB v (ix2 i k) = v (ix1 i) := by
  unfold rowB
  refine (broadcastInDim_apply _ _ _ _ (ix2 i 0) fun d => ?_).trans (broadcastInDim_apply _ _ _ _ (ix1 i) fun d => ?_)
  · fin_cases d <;> rfl
  · fin_cases d; rfl

theorem colB_apply {α : Type} (v : S16.Idx → α) (i k : Fin 16) : colB v (ix2 i k) = v (ix1 k) := by
  unfold colB
  refine (broadcastInDim_apply _ _ _ _ (ix2 0 k) fun d => ?_).trans (broadcastInDim_apply _ _ _ _ (ix1 k) fun d => ?_)
  · fin_cases d <;> rfl
  · fin_cases d; rfl

theorem div_at {s : Shape} (a d : FVec Ideal s .f32) (i : s.Idx) : Host.divf a d i = Ideal.div (a i : EReal) (d i) := rfl
theorem ent_at (q : FVec Ideal S16x20 .f32) (i : S16x20.Idx) :
    mulf q (Host.log (addf q (broadcastInDim S16x20 ![] bcast_S_S16x20 tiny))) i = (q i * Ideal.log (q i + eps) : EReal) := rfl
theorem mi_at (q d : FVec Ideal S16x16x20x20 .f32) (i : S16x16x20x20.Idx) :
    mulf q (Host.log (addf (Host.divf q d) (broadcastInDim S16x16x20x20 ![] bcast_S_S16x16x20x20 tiny))) i = (q i * Ideal.log (Ideal.div (q i) (d i) + eps) : EReal) := rfl
theorem neg_at {s : Shape} (a : FVec Ideal s .f32) (i : s.Idx) : Host.negf a i = (-(a i) : EReal) := rfl
theorem mul_at {s : Shape} (a d : FVec Ideal s .f32) (i : s.Idx) : mulf a d i = (a i * d i : EReal) := rfl

section One
include hb hh

theorem rShare_apply (c : Fin 16) (u : Fin 20) : rShare h (ix2 c u) = fr (N1 b c u.val) := by
  unfold rShare
  rw [div_at, lineB, sum_line, hh, Finset.sum_congr rfl fun u _ => hh c u, ← Nat.cast_sum, N1_total hb]
  rfl

theorem rEnt_apply (c : Fin 16) : rEnt (rShare h) (ix1 c) = ent b c := by
  unfold rEnt ent
  rw [neg_at, sum_line]
  refine congrArg (fun z : EReal => -z) (Finset.sum_congr rfl fun u _ => ?_)
  rw [ent_at, rShare_apply hb hh]
end One

section Two
include hb hj

theorem rJs_apply (p q : Fin 16) (r s : Fin 20) : rJs j (ix4 p q r s) = fr (N2 b p q r.val s.val) := by
  unfold rJs
  have t : (∑ r : Fin 20, ∑ s : Fin 20, (j (ix4 p q r s) : EReal)) = ((524288 : ℕ) : EReal) := by
    rw [← N1_total hb p, Nat.cast_sum]
    refine Finset.sum_congr rfl fun r _ => ?_
    rw [Finset.sum_congr rfl fun s _ => hj p q r s, ← Nat.cast_sum, N2_right hb]
  rw [div_at, pairB, sum_both, hj, t]
  rfl

theorem rFirst_apply (p q : Fin 16) (r s : Fin 20) : rFirst (rJs j) (ix4 p q r s) = fr (N1 b p r.val) := by
  unfold rFirst
  rw [firstB, sum_second, Finset.sum_congr rfl fun s _ => rJs_apply hb hj p q r s, fr_sum, N2_right hb]

theorem rSecond_apply (p q : Fin 16) (r s : Fin 20) : rSecond (rJs j) (ix4 p q r s) = fr (N1 b q s.val) := by
  unfold rSecond
  rw [secondB, sum_first, Finset.sum_congr rfl fun r _ => rJs_apply hb hj p q r s, fr_sum, N2_left hb]

theorem rMi_apply (p q : Fin 16) : rMi (rJs j) (ix2 p q) = mi b p q := by
  unfold rMi mi cellV
  rw [sum_both]
  refine Finset.sum_congr rfl fun r _ => Finset.sum_congr rfl fun s _ => ?_
  rw [mi_at, mul_at, rJs_apply hb hj, rFirst_apply hb hj, rSecond_apply hb hj]
end Two

theorem vi_at (a d w : FVec Ideal S16x16 .f32) (i : S16x16.Idx) :
    subf (addf a d) (mulf (broadcastInDim S16x16 ![] bcast_S_S16x16 (constant S_ .f32 0x40000000#32)) w) i
      = ((a i + d i) - Ideal.ofBits .f32 0x40000000#32 * w i : EReal) := rfl

include hb hh hj in
theorem rVi_apply (p q : Fin 16) : rVi (rEnt (rShare h)) (rMi (rJs j)) (ix2 p q) = vi b p q := by
  unfold rVi vi
  rw [vi_at, rowB_apply, colB_apply, rEnt_apply hb hh, rEnt_apply hb hh, rMi_apply hb hj]

theorem slt_iff : ∀ p q : Fin 16, IntOp.cmpi .slt (BitVec.ofNat 32 p.val) (BitVec.ofNat 32 q.val) = if p < q then 1#1 else 0#1 := by decide

theorem up_at (v : FVec Ideal S16x16 .f32) (c : IVec S16x16 1) (i : S16x16.Idx) :
    select c v (broadcastInDim S16x16 ![] bcast_S_S16x16 (id zro)) i = if c i = 1#1 then (v i : EReal) else Ideal.ofBits .f32 0x00000000#32 := rfl

theorem rUp_apply (v : FVec Ideal S16x16 .f32) (p q : Fin 16) : rUp v (ix2 p q) = if p < q then (v (ix2 p q) : EReal) else 0 := by
  unfold rUp
  have e : cmpi .slt (rowB (iotaInDim S16 32 0)) (colB (iotaInDim S16 32 0)) (ix2 p q) = if p < q then 1#1 else 0#1 := by
    refine Eq.trans ?_ (slt_iff p q)
    show IntOp.cmpi .slt (rowB (iotaInDim S16 32 0) (ix2 p q)) (colB (iotaInDim S16 32 0) (ix2 p q)) = _
    rw [rowB_apply, colB_apply]
    rfl
  rw [up_at, e, Ideal.ofBits_zero_f32]
  by_cases h : p < q
  · rw [if_pos h, if_pos h, if_pos rfl]
  · rw [if_neg h, if_neg h, if_neg (by decide)]

theorem rSym_apply (v : FVec Ideal S16x16 .f32) (p q : Fin 16) : rSym v (ix2 p q) = (v (ix2 p q) + v (ix2 q p) : EReal) := by
  unfold rSym
  refine congrArg (fun z : EReal => (v (ix2 p q) : EReal) + z) (transpose_apply _ _ _ _ (ix2 q p) fun d => ?_)
  fin_cases d <;> rfl

end Shares

theorem rMat_apply (x : FVec Ideal S8x65536x16 .f32) (i j : Fin 16) : rMat x (ix2 i j) = viM (bins x) i j := by
  have hb := bins_lt x
  have ho : ∀ (e : Fin 524288) (c : Fin 16) (u : Fin 20), (rHot (rRow x) : FVec Ideal _ .f32) (ix3 e c u) = if bins x e.val c = u.val then (1 : EReal) else 0 := by
    intro e c u
    rw [rHot_apply, rRow_apply]
  have hv := fun p q => rVi_apply hb (rHist_apply ho) (rJoin_apply ho) p q
  unfold rMat viM
  rw [rSym_apply, rUp_apply, rUp_apply, hv, hv]

theorem rMat_eq (x : FVec Ideal S8x65536x16 .f32) : rMat x = mat (F := Ideal) x := by
  funext k
  rw [ValueIdx.eq_ix2 k]
  exact (rMat_apply x (k 0) (k 1)).trans (mat_apply x (k 0) (k 1)).symm

theorem rOut_eq (x : FVec Ideal S8x65536x16 .f32) : rOut x = kOut (F := Ideal) x := by
  unfold rOut kOut
  rw [rMat_eq]

end Cert.Proof.Ref
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frame
public import proofs.«01_k».proof.Proof.RefVal
public import Idealize.ShloMosaic.Adequacy
public import Idealize.ShloMosaic.Init

@[expose] public section

noncomputable section

namespace Cert.Proof

open Idealize.ShloMosaic Idealize.SL.Sem

/-- The kernel's reading over the extended reals runs, returns its argument and leaves every counter at zero. -/
theorem frame_ideal : Cert.quiescent_KernelIdeal := fun m ρ _ =>
  (θ_run Cert.KernelIdeal.defs _ _).mono (fun _ h => ⟨fun c => (h.1 c).2, h.2⟩) (run_out (F := Ideal) m ρ)

/-- So does the reference, which has no counter. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From the same samples both programs end with the same matrix, element by element over the extended reals. -/
theorem algebraic : Cert.algebraic_KernelIdeal_ReferenceIdeal := by
  intro m g m' g' _ hm
  refine ⟨fun c => kOut (F := Ideal) (arg m c),
    (θ_run Cert.KernelIdeal.defs _ _).mono (fun _ h => h.1) (run_out (F := Ideal) m g),
    (θ_run Cert.ReferenceIdeal.defs _ _).mono (fun r h c => ⟨(h c).1.trans ?_, (h c).2⟩) (Cert.ReferenceIdeal.Value.run (F := Ideal) m' g')⟩
  exact (Ref.res_eq m' c).trans ((Ref.rOut_eq _).trans (congrArg (kOut (F := Ideal)) (hm c)))

theorem claim : Cert.Claim := ⟨Cert.Kernel.Gen.facts, Cert.KernelIdeal.Gen.facts, Cert.ReferenceIdeal.Gen.facts,
  frame_kernel, frame_ideal, frame_ref, trivial, algebraic⟩

end Cert.Proof

end
